-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![128, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![4096, 256]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![4096, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![4096, 256]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![256, 4096]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![256, 4096]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![256, 4096]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![128, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S128x128 : Shape := ⟨2, ![128, 128]⟩
abbrev S128x256 : Shape := ⟨2, ![128, 256]⟩
abbrev S256x128 : Shape := ⟨2, ![256, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .bf16) (main_arg5 : FVec F S256x128 .bf16) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .bf16 := Host.absf main_arg4
  let main_cst_6 : FVec F S_ .bf16 := constant S_ .bf16 0x7F80#16
  let main_v20 : FVec F S256x128 .bf16 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .bf16 := Host.absf main_arg5
  let main_cst_8 : FVec F S_ .bf16 := constant S_ .bf16 0x7F80#16
  let main_v25 : FVec F S256x128 .bf16 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  main_v28

def fn {F : FTy → Type} [FloatOps F] (main_arg0 : FVec F S128x128 .bf16) (main_arg1 : FVec F S128x256 .bf16) (main_arg2 : FVec F S128x256 .bf16) (main_arg3 : FVec F S128x256 .bf16) (main_arg4 : FVec F S256x128 .bf16) (main_arg5 : FVec F S256x128 .bf16) (main_arg6 : FVec F S256x128 .bf16) : IVec S_ 1 :=
  let main_v0 : FVec F S128x128 .bf16 := Host.absf main_arg0
  let main_cst : FVec F S_ .bf16 := constant S_ .bf16 0x7F80#16
  let main_v1 : FVec F S128x128 .bf16 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x256 .bf16 := Host.absf main_arg1
  let main_cst_0 : FVec F S_ .bf16 := constant S_ .bf16 0x7F80#16
  let main_v5 : FVec F S128x256 .bf16 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .bf16 := Host.absf main_arg2
  let main_cst_2 : FVec F S_ .bf16 := constant S_ .bf16 0x7F80#16
  let main_v10 : FVec F S128x256 .bf16 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .bf16 := Host.absf main_arg3
  let main_cst_4 : FVec F S_ .bf16 := constant S_ .bf16 0x7F80#16
  let main_v15 : FVec F S128x256 .bf16 := broadcastInDim S128x256 ![] bcast_S_S128x256 main_cst_4
  let main_v16 : IVec S128x256 1 := cmpf .olt main_v14 main_v15
  fn_part1 (F := F) main_arg4 main_arg5 main_v13 main_v16
-- ==== Pre_finite_ReferenceIdeal.lean ====
abbrev S128x4096 : Shape := ⟨2, ![128, 4096]⟩
abbrev S4096x256 : Shape := ⟨2, ![4096, 256]⟩
abbrev S256x4096 : Shape := ⟨2, ![256, 4096]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x4096 : S_.BroadcastsInDim S256x4096 (![] : Fin 0 → Fin S256x4096.rank)
  reducesTo_S256x4096_S_d0_1 : S256x4096.ReducesTo [0, 1] S_

variable [Facts]

def fn_part1 {F : FTy → Type} [FloatOps F] (main_arg4 : FVec F S256x4096 .bf16) (main_arg5 : FVec F S256x4096 .bf16) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256x4096 .bf16 := Host.absf main_arg4
  let main_cst_6 : FVec F S_ .bf16 := constant S_ .bf16 0x7F80#16
  let main_v20 : FVec F S256x4096 .bf16 := broadcastInDim S256x4096 ![] bcast_S_S256x4096 main_cst_6
  let main_v21 : IVec S256x4096 1 := cmpf .olt main_v19 main_v20
  let main_c_7 : IVec S_ 1 := constantI S_ 1 1#1
  let main_v22 : IVec S_ 1 := (fun x v => Host.reduce IntOp.andi x v reducesTo_S256x4096_S_d0_1 h_S_) main_v21 main_c_7
  let main_v23 : IVec S_ 1 := andi main_v18 main_v22
  let main_v24 : FVec F S256x4096 .bf16 := Host.absf main_arg5
  let main_cst_8 : FVec F S_ .bf16 := constant S_ .bf16 0x7F80#16
  let main_v25 : FVec F S256x4096 .bf16 := broadcastInDim S256x4096 ![] bcast_S_S256x4096 main_cst_8
  let main_v26 : IVec S256x4096 1 := cmpf .olt main_v24 main_v25
  let main_c_9 : IVec S_ 1 := constantI S_ 1 1#1
  let main_v27 : IVec S_ 1 := (fun x v => Host.reduce IntOp.andi x v reducesTo_S256x4096_S_d0_1 h_S_) main_v26 main_c_9
  let main_v28 : IVec S_ 1 := andi main_v23 main_v27
  main_v28

def fn {F : FTy → Type} [FloatOps F] (main_arg0 : FVec F S128x4096 .bf16) (main_arg1 : FVec F S4096x256 .bf16) (main_arg2 : FVec F S4096x256 .bf16) (main_arg3 : FVec F S4096x256 .bf16) (main_arg4 : FVec F S256x4096 .bf16) (main_arg5 : FVec F S256x4096 .bf16) (main_arg6 : FVec F S256x4096 .bf16) : IVec S_ 1 :=
  let main_v0 : FVec F S128x4096 .bf16 := Host.absf main_arg0
  let main_cst : FVec F S_ .bf16 := constant S_ .bf16 0x7F80#16
  let main_v1 : FVec F S128x4096 .bf16 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096x256 .bf16 := Host.absf main_arg1
  let main_cst_0 : FVec F S_ .bf16 := constant S_ .bf16 0x7F80#16
  let main_v5 : FVec F S4096x256 .bf16 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .bf16 := Host.absf main_arg2
  let main_cst_2 : FVec F S_ .bf16 := constant S_ .bf16 0x7F80#16
  let main_v10 : FVec F S4096x256 .bf16 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x256 .bf16 := Host.absf main_arg3
  let main_cst_4 : FVec F S_ .bf16 := constant S_ .bf16 0x7F80#16
  let main_v15 : FVec F S4096x256 .bf16 := broadcastInDim S4096x256 ![] bcast_S_S4096x256 main_cst_4
  let main_v16 : IVec S4096x256 1 := cmpf .olt main_v14 main_v15
  fn_part1 (F := F) main_arg4 main_arg5 main_v13 main_v16
-- ==== Kernel.lean ====
abbrev S128x128 : Shape := ⟨2, ![128, 128]⟩
abbrev S128x256 : Shape := ⟨2, ![128, 256]⟩
abbrev S256x128 : Shape := ⟨2, ![256, 128]⟩
abbrev S2x128x256 : Shape := ⟨3, ![2, 128, 256]⟩
abbrev S21x128x256 : Shape := ⟨3, ![21, 128, 256]⟩
abbrev S21 : Shape := ⟨1, ![21]⟩
abbrev S_ : Shape := ⟨0, ![]⟩
abbrev S1x128x256 : Shape := ⟨3, ![1, 128, 256]⟩
abbrev S1 : Shape := ⟨1, ![1]⟩
abbrev S256x256 : Shape := ⟨2, ![256, 256]⟩

abbrev nBuf : Space → Nat
  | .hbm => 8
  | .vmem => 10
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S128x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .f32⟩
  | .local _ .vmem, ⟨8, _⟩ => ⟨S2x128x256, .bf16⟩
  | .local _ .vmem, ⟨9, _⟩ => ⟨S21x128x256, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v9 : BitVec 32 := Scalar.xori v2 c1_i32_3
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v12 : BitVec 32 := Scalar.xori v2 c2_i32
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v15 : BitVec 32 := Scalar.xori v2 c3_i32
  let c1_i32_10 : BitVec 32 := 1#32
  let v16 : BitVec 32 := Scalar.muli v15 c1_i32_10
  let v17 : BitVec 32 := Scalar.addi c0_i32_11 v16
  v17.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v18 : BitVec 32 := Scalar.xori v2 c4_i32
  let c1_i32_13 : BitVec 32 := 1#32
  let v19 : BitVec 32 := Scalar.muli v18 c1_i32_13
  let v20 : BitVec 32 := Scalar.addi c0_i32_14 v19
  v20.toNat
def k0_dev5 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v21 : BitVec 32 := Scalar.xori v2 c8_i32
  let c1_i32_16 : BitVec 32 := 1#32
  let v22 : BitVec 32 := Scalar.muli v21 c1_i32_16
  let v23 : BitVec 32 := Scalar.addi c0_i32_17 v22
  v23.toNat
def k0_dev6 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v24 : BitVec 32 := Scalar.xori v2 c16_i32
  let c1_i32_19 : BitVec 32 := 1#32
  let v25 : BitVec 32 := Scalar.muli v24 c1_i32_19
  let v26 : BitVec 32 := Scalar.addi c0_i32_20 v25
  v26.toNat
def k0_dev7 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v27 : BitVec 32 := Scalar.xori v2 c24_i32
  let c1_i32_22 : BitVec 32 := 1#32
  let v28 : BitVec 32 := Scalar.muli v27 c1_i32_22
  let v29 : BitVec 32 := Scalar.addi c0_i32_23 v28
  v29.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v34 : BitVec 32 := Scalar.xori v2 c1_i32_27
  let c1_i32_32 : BitVec 32 := 1#32
  let v35 : BitVec 32 := Scalar.muli v34 c1_i32_32
  let v36 : BitVec 32 := Scalar.addi c0_i32_33 v35
  v36.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_38 : BitVec 32 := 2#32
  let v45 : BitVec 32 := Scalar.xori v2 c2_i32_38
  let c1_i32_43 : BitVec 32 := 1#32
  let v46 : BitVec 32 := Scalar.muli v45 c1_i32_43
  let v47 : BitVec 32 := Scalar.addi c0_i32_44 v46
  v47.toNat
def k0_dev10 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_49 : BitVec 32 := 3#32
  let v56 : BitVec 32 := Scalar.xori v2 c3_i32_49
  let c1_i32_54 : BitVec 32 := 1#32
  let v57 : BitVec 32 := Scalar.muli v56 c1_i32_54
  let v58 : BitVec 32 := Scalar.addi c0_i32_55 v57
  v58.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_105 : BitVec 32 := 4#32
  let v113 : BitVec 32 := Scalar.xori v2 c4_i32_105
  let c1_i32_110 : BitVec 32 := 1#32
  let v114 : BitVec 32 := Scalar.muli v113 c1_i32_110
  let v115 : BitVec 32 := Scalar.addi c0_i32_111 v114
  v115.toNat
def k0_dev12 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_163 : BitVec 32 := 8#32
  let v164 : BitVec 32 := Scalar.xori v2 c8_i32_163
  let c1_i32_168 : BitVec 32 := 1#32
  let v165 : BitVec 32 := Scalar.muli v164 c1_i32_168
  let v166 : BitVec 32 := Scalar.addi c0_i32_169 v165
  v166.toNat
def k0_dev13 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_174 : BitVec 32 := 16#32
  let v175 : BitVec 32 := Scalar.xori v2 c16_i32_174
  let c1_i32_178 : BitVec 32 := 1#32
  let v176 : BitVec 32 := Scalar.muli v175 c1_i32_178
  let v177 : BitVec 32 := Scalar.addi c0_i32_179 v176
  v177.toNat
def k0_dev14 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_184 : BitVec 32 := 24#32
  let v186 : BitVec 32 := Scalar.xori v2 c24_i32_184
  let c1_i32_188 : BitVec 32 := 1#32
  let v187 : BitVec 32 := Scalar.muli v186 c1_i32_188
  let v188 : BitVec 32 := Scalar.addi c0_i32_189 v187
  v188.toNat
def k0_dev15 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_246 : BitVec 32 := 1#32
  let v249 : BitVec 32 := Scalar.xori v2 c1_i32_246
  let c1_i32_251 : BitVec 32 := 1#32
  let v250 : BitVec 32 := Scalar.muli v249 c1_i32_251
  let v251 : BitVec 32 := Scalar.addi c0_i32_252 v250
  v251.toNat
def k0_dev16 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_257 : BitVec 32 := 2#32
  let v260 : BitVec 32 := Scalar.xori v2 c2_i32_257
  let c1_i32_262 : BitVec 32 := 1#32
  let v261 : BitVec 32 := Scalar.muli v260 c1_i32_262
  let v262 : BitVec 32 := Scalar.addi c0_i32_263 v261
  v262.toNat
def k0_dev17 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_268 : BitVec 32 := 3#32
  let v271 : BitVec 32 := Scalar.xori v2 c3_i32_268
  let c1_i32_272 : BitVec 32 := 1#32
  let v272 : BitVec 32 := Scalar.muli v271 c1_i32_272
  let v273 : BitVec 32 := Scalar.addi c0_i32_273 v272
  v273.toNat
def k0_dev18 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_344 : BitVec 32 := 4#32
  let v340 : BitVec 32 := Scalar.xori v2 c4_i32_344
  let c1_i32_348 : BitVec 32 := 1#32
  let v341 : BitVec 32 := Scalar.muli v340 c1_i32_348
  let v342 : BitVec 32 := Scalar.addi c0_i32_349 v341
  v342.toNat
def k0_dev19 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_396 : BitVec 32 := 8#32
  let v385 : BitVec 32 := Scalar.xori v2 c8_i32_396
  let c1_i32_400 : BitVec 32 := 1#32
  let v386 : BitVec 32 := Scalar.muli v385 c1_i32_400
  let v387 : BitVec 32 := Scalar.addi c0_i32_401 v386
  v387.toNat
def k0_dev20 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_406 : BitVec 32 := 16#32
  let v396 : BitVec 32 := Scalar.xori v2 c16_i32_406
  let c1_i32_410 : BitVec 32 := 1#32
  let v397 : BitVec 32 := Scalar.muli v396 c1_i32_410
  let v398 : BitVec 32 := Scalar.addi c0_i32_411 v397
  v398.toNat
def k0_dev21 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_416 : BitVec 32 := 24#32
  let v407 : BitVec 32 := Scalar.xori v2 c24_i32_416
  let c1_i32_420 : BitVec 32 := 1#32
  let v408 : BitVec 32 := Scalar.muli v407 c1_i32_420
  let v409 : BitVec 32 := Scalar.addi c0_i32_421 v408
  v409.toNat
def k0_dev22 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_476 : BitVec 32 := 1#32
  let v468 : BitVec 32 := Scalar.xori v2 c1_i32_476
  let c1_i32_480 : BitVec 32 := 1#32
  let v469 : BitVec 32 := Scalar.muli v468 c1_i32_480
  let v470 : BitVec 32 := Scalar.addi c0_i32_481 v469
  v470.toNat
def k0_dev23 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_486 : BitVec 32 := 2#32
  let v479 : BitVec 32 := Scalar.xori v2 c2_i32_486
  let c1_i32_490 : BitVec 32 := 1#32
  let v480 : BitVec 32 := Scalar.muli v479 c1_i32_490
  let v481 : BitVec 32 := Scalar.addi c0_i32_491 v480
  v481.toNat
def k0_dev24 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_496 : BitVec 32 := 3#32
  let v490 : BitVec 32 := Scalar.xori v2 c3_i32_496
  let c1_i32_501 : BitVec 32 := 1#32
  let v491 : BitVec 32 := Scalar.muli v490 c1_i32_501
  let v492 : BitVec 32 := Scalar.addi c0_i32_502 v491
  v492.toNat
def k0_dev25 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_573 : BitVec 32 := 4#32
  let v559 : BitVec 32 := Scalar.xori v2 c4_i32_573
  let c1_i32_577 : BitVec 32 := 1#32
  let v560 : BitVec 32 := Scalar.muli v559 c1_i32_577
  let v561 : BitVec 32 := Scalar.addi c0_i32_578 v560
  v561.toNat
def k0_dev26 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_625 : BitVec 32 := 8#32
  let v604 : BitVec 32 := Scalar.xori v2 c8_i32_625
  let c1_i32_629 : BitVec 32 := 1#32
  let v605 : BitVec 32 := Scalar.muli v604 c1_i32_629
  let v606 : BitVec 32 := Scalar.addi c0_i32_630 v605
  v606.toNat
def k0_dev27 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_635 : BitVec 32 := 16#32
  let v615 : BitVec 32 := Scalar.xori v2 c16_i32_635
  let c1_i32_639 : BitVec 32 := 1#32
  let v616 : BitVec 32 := Scalar.muli v615 c1_i32_639
  let v617 : BitVec 32 := Scalar.addi c0_i32_640 v616
  v617.toNat
def k0_dev28 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_645 : BitVec 32 := 24#32
  let v626 : BitVec 32 := Scalar.xori v2 c24_i32_645
  let c1_i32_649 : BitVec 32 := 1#32
  let v627 : BitVec 32 := Scalar.muli v626 c1_i32_649
  let v628 : BitVec 32 := Scalar.addi c0_i32_650 v627
  v628.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x4096 : Shape := ⟨2, ![128, 4096]⟩
abbrev S4096x256 : Shape := ⟨2, ![4096, 256]⟩
abbrev S256x4096 : Shape := ⟨2, ![256, 4096]⟩
abbrev S128x256 : Shape := ⟨2, ![128, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S4096x256, .bf16⟩
  | .hbm, ⟨2, _⟩ => ⟨S4096x256, .bf16⟩
  | .hbm, ⟨3, _⟩ => ⟨S4096x256, .bf16⟩
  | .hbm, ⟨4, _⟩ => ⟨S256x4096, .bf16⟩
  | .hbm, ⟨5, _⟩ => ⟨S256x4096, .bf16⟩
  | .hbm, ⟨6, _⟩ => ⟨S256x4096, .bf16⟩
  | .hbm, ⟨7, _⟩ => ⟨S128x256, .f32⟩
  | .hbm, ⟨8, _⟩ => ⟨S128x256, .bf16⟩
  | .hbm, ⟨9, _⟩ => ⟨S_, .bf16⟩
  | .hbm, ⟨10, _⟩ => ⟨S128x256, .bf16⟩
  | .hbm, ⟨11, _⟩ => ⟨S128x256, .bf16⟩
  | .hbm, ⟨12, _⟩ => ⟨S128x4096, .f32⟩
  | .hbm, ⟨13, _⟩ => ⟨S128x4096, .bf16⟩
  | .hbm, ⟨14, _⟩ => ⟨S128x256, .f32⟩
  | .hbm, ⟨15, _⟩ => ⟨S128x256, .bf16⟩
  | .hbm, ⟨16, _⟩ => ⟨S_, .bf16⟩
  | .hbm, ⟨17, _⟩ => ⟨S128x256, .bf16⟩
  | .hbm, ⟨18, _⟩ => ⟨S128x256, .bf16⟩
  | .hbm, ⟨19, _⟩ => ⟨S128x4096, .f32⟩
  | .hbm, ⟨20, _⟩ => ⟨S128x4096, .bf16⟩
  | .hbm, ⟨21, _⟩ => ⟨S128x256, .f32⟩
  | .hbm, ⟨22, _⟩ => ⟨S128x256, .bf16⟩
  | .hbm, ⟨23, _⟩ => ⟨S_, .bf16⟩
  | .hbm, ⟨24, _⟩ => ⟨S128x256, .bf16⟩
  | .hbm, ⟨25, _⟩ => ⟨S128x256, .bf16⟩
  | .hbm, ⟨26, _⟩ => ⟨S128x4096, .f32⟩
  | .hbm, ⟨27, _⟩ => ⟨S128x4096, .bf16⟩
  | .hbm, ⟨28, _⟩ => ⟨S128x4096, .f32⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Net.lean ====
/-
# The exchange pattern of the kernel

Thirty-two devices exchange partial sums in nine rounds, three rounds per layer. In a round a device swaps its
block with one or three partners, whose numbers differ from its own by the bits of a mask. The transfers of the
whole kernel are numbered `0 … 20`: seven per layer, three in the first round of a layer, one in the second and
three in the third. Transfer `s` lands in slot `s` of the partner's receive buffer and is read out of half
`parity of the round` of the sender's send buffer. This module states that numbering and the partners.
-/
module

public import proofs.«01_k».proof.Proof.Gen.KernelIdeal

@[expose] public section

namespace Cert.AllReduce

open Cert.KernelIdeal Cert.KernelIdeal.Gen
open Idealize.ShloMosaic

/-- The bits in which a device's number differs from its `j`-th partner's. -/
def mask : Fin 7 → ℕ := ![1, 2, 3, 4, 8, 16, 24]

/-- The `j`-th partner of device `c`. -/
def xr (j : Fin 7) (c : Dev nD) : Dev nD := ⟨(c.val ^^^ mask j) % 32, Nat.mod_lt _ (by decide)⟩

/-- Being the `j`-th partner is mutual. -/
theorem xr_xr (j : Fin 7) (c : Dev nD) : xr j (xr j c) = c := by revert j c; decide

/-- Taking `j`-th partners, as a permutation of the devices. -/
def swap (j : Fin 7) : Dev nD ≃ Dev nD := ⟨xr j, xr j, xr_xr j, xr_xr j⟩

/-- The number of transfers of a round: three in the outer rounds of a layer, one in the middle one. -/
def cnt (r : Fin 9) : ℕ := if r.val % 3 = 1 then 1 else 3

/-- The first transfer of a round. -/
def start : Fin 9 → ℕ := ![0, 3, 4, 7, 10, 11, 14, 17, 18]

theorem cnt_pos (r : Fin 9) : 0 < cnt r := by revert r; decide

/-- The `j`-th transfer of round `r`. -/
def slot (r : Fin 9) (j : Fin (cnt r)) : Fin 21 := ⟨start r + j.val, by revert r; decide⟩

/-- The round of a transfer. -/
def rd : Fin 21 → Fin 9 := ![0, 0, 0, 1, 2, 2, 2, 3, 3, 3, 4, 5, 5, 5, 6, 6, 6, 7, 8, 8, 8]

/-- The place of a transfer in its round. -/
def ix (s : Fin 21) : Fin (cnt (rd s)) := ⟨s.val - start (rd s), by revert s; decide⟩

/-- The partner a transfer goes to. -/
def tm (s : Fin 21) : Fin 7 := ⟨s.val % 7, Nat.mod_lt _ (by decide)⟩

/-- The half of the send buffer a round uses. -/
def par (r : Fin 9) : Fin 2 := ⟨r.val % 2, Nat.mod_lt _ (by decide)⟩

theorem rd_slot (r : Fin 9) (j : Fin (cnt r)) : (⟨rd (slot r j), ix (slot r j)⟩ : Σ r : Fin 9, Fin (cnt r)) = ⟨r, j⟩ := by
  revert r; decide

theorem slot_injective (r : Fin 9) : Function.Injective (slot r) := by
  intro i j h
  exact Fin.ext (Nat.add_left_cancel (congrArg Fin.val h))

/-- The transfers of round `r`. -/
def slots (r : Fin 9) : Finset (Fin 21) := Finset.univ.map ⟨slot r, slot_injective r⟩

/-- The device transfer `s` of device `c` is addressed to, as the kernel computes it. -/
def sendDev (c : Dev nD) : Fin 21 → Dev nD :=
  ![⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩,
    ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩,
    ⟨k0_dev20 c, k0_dev20_lt c⟩, ⟨k0_dev21 c, k0_dev21_lt c⟩, ⟨k0_dev22 c, k0_dev22_lt c⟩,
    ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩]

/-- The device of the `j`-th barrier signal of device `c`, as the kernel computes it. -/
def signalDev (c : Dev nD) : Fin 7 → Dev nD :=
  ![⟨k0_dev1 c, k0_dev1_lt c⟩, ⟨k0_dev2 c, k0_dev2_lt c⟩, ⟨k0_dev3 c, k0_dev3_lt c⟩,
    ⟨k0_dev4 c, k0_dev4_lt c⟩, ⟨k0_dev5 c, k0_dev5_lt c⟩, ⟨k0_dev6 c, k0_dev6_lt c⟩,
    ⟨k0_dev7 c, k0_dev7_lt c⟩]

set_option maxRecDepth 4000 in
/-- Transfer `s` goes to the partner numbered `s mod 7`. -/
theorem sendDev_eq (s : Fin 21) (c : Dev nD) : sendDev c s = xr (tm s) c := by
  revert s c; decide +kernel

set_option maxRecDepth 4000 in
/-- The `j`-th barrier signal goes to the `j`-th partner. -/
theorem signalDev_eq (j : Fin 7) (c : Dev nD) : signalDev c j = xr j c := by
  revert j c; decide +kernel

end Cert.AllReduce
-- ==== Proof.Cells.lean ====
/-
# The kernel's buffers and semaphores, and the protocol they follow

Every device has a barrier semaphore, 21 send semaphores and 21 receive semaphores. Each is used for one round:

* the barrier cell of a device receives one unit from each of its seven partners; with its unit a partner hands
  over the three slots of its own receive buffer that the device will write to;
* send cell `s` receives the credit of transfer `s` once it has been read out, and gives back the share of the send
  buffer the transfer was reading;
* receive cell `s` receives the credit of the partner's transfer `s`, and hands over slot `s`, filled.

The values the transfers carry are a parameter here: `V r c` is what device `c` sends in round `r`.
-/
module

public import proofs.«01_k».proof.Proof.Net
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.StableHlo.CollectiveRules
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part and the protocol's, whose duties are numbered by `Fin 7` -/

abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## Buffers -/

theorem inbS (p : Fin 2) : ∀ a, (![p.val, 0, 0] : Fin 3 → ℕ) a + S1x128x256.size a ≤ S2x128x256.size a := by
  revert p; decide
theorem inbR (s : Fin 21) : ∀ a, (![s.val, 0, 0] : Fin 3 → ℕ) a + S1x128x256.size a ≤ S21x128x256.size a := by
  revert s; decide

/-- Half `p` of the send buffer, as a rectangle, -/
abbrev sndR (p : Fin 2) : Rect S2x128x256 := Rect.unit (s := S2x128x256) ![p.val, 0, 0] S1x128x256.size (inbS p)
/-- and slot `s` of the receive buffer. -/
abbrev rcvR (s : Fin 21) : Rect S21x128x256 := Rect.unit (s := S21x128x256) ![s.val, 0, 0] S1x128x256.size (inbR s)

abbrev sndB : Memref sig .tc .vmem S2x128x256 .bf16 := Memref.whole cc0_scratch0
abbrev rcvB : Memref sig .tc .vmem S21x128x256 .bf16 := Memref.whole cc0_scratch1

/-- Half `p` of the send buffer, the unit axis dropped, -/
abbrev sndM (p : Fin 2) : Memref sig .tc .vmem S128x256 .bf16 :=
  (sndB.slice (sndR p) (fun _ => rfl)).squeeze S128x256 squeezes_S1x128x256_S128x256
/-- and slot `s` of the receive buffer. -/
abbrev rcvM (s : Fin 21) : Memref sig .tc .vmem S128x256 .bf16 :=
  (rcvB.slice (rcvR s) (fun _ => rfl)).squeeze S128x256 squeezes_S1x128x256_S128x256

/-! ## Semaphores -/

/-- The barrier semaphore, -/
abbrev barS : Sem sig := (SemArray.scalar (sig.barrier 0 rfl) : Sems sig S_).sem
/-- send semaphore `s` -/
def sendSem (s : Fin 21) : DmaSem sig := ⟨8 + s.val, by have := s.isLt; show 8 + s.val < 50; omega⟩
/-- and receive semaphore `s`. -/
def recvSem (s : Fin 21) : DmaSem sig := ⟨29 + s.val, by have := s.isLt; show 29 + s.val < 50; omega⟩

theorem inbQ (s : Fin 21) : ∀ a, (![s.val] : Fin 1 → ℕ) a + S1.size a ≤ S21.size a := by revert s; decide

theorem sendSem_eq (s : Fin 21) :
    ((cc0_scratch2.slice (Rect.unit (s := S21) ![s.val] S1.size (inbQ s))).squeeze S_ squeezes_S1_S_).sem = sendSem s := by
  revert s; decide +kernel
theorem recvSem_eq (s : Fin 21) :
    ((cc0_scratch3.slice (Rect.unit (s := S21) ![s.val] S1.size (inbQ s))).squeeze S_ squeezes_S1_S_).sem = recvSem s := by
  revert s; decide +kernel

abbrev barCell (c : Dev nD) : GSem nD τ sig := ((c : Thread nD τ), .reg barS)
abbrev sendCell (c : Dev nD) (s : Fin 21) : GSem nD τ sig := ((c : Thread nD τ), .dma (sendSem s))
abbrev recvCell (c : Dev nD) (s : Fin 21) : GSem nD τ sig := ((c : Thread nD τ), .dma (recvSem s))

/-- The send semaphore a cell is, if any, -/
def asSend : SemLoc sig → Option (Fin 21)
  | .dma q => if h : 8 ≤ q.val ∧ q.val < 29 then some ⟨q.val - 8, by omega⟩ else none
  | .reg _ => none
/-- and the receive semaphore. -/
def asRecv : SemLoc sig → Option (Fin 21)
  | .dma q => if h : 29 ≤ q.val ∧ q.val < 50 then some ⟨q.val - 29, by omega⟩ else none
  | .reg _ => none

theorem asSend_send (s : Fin 21) : asSend (.dma (sendSem s)) = some s := by revert s; decide
theorem asSend_recv (s : Fin 21) : asSend (.dma (recvSem s)) = none := by revert s; decide
theorem asRecv_recv (s : Fin 21) : asRecv (.dma (recvSem s)) = some s := by revert s; decide
theorem asRecv_send (s : Fin 21) : asRecv (.dma (sendSem s)) = none := by revert s; decide
theorem dma_ne_bar (q : DmaSem sig) : (SemLoc.dma q : SemLoc sig) ≠ .reg barS := fun h => by cases h

/-- The credit of one transfer. -/
abbrev N : ℕ := (rcvM 0).view.dmaCredit
theorem N_pos : 0 < N := View.dmaCredit_pos _ (by decide)

/-! ## The schedule -/

/-- The share of its half of the send buffer transfer `s` reads with. -/
def qsh (s : Fin 21) : PosShare TreeShare := PosShare.pieces (cnt (rd s)) fullShare (ix s)

theorem qsh_slot (r : Fin 9) (j : Fin (cnt r)) : qsh (slot r j) = PosShare.pieces (cnt r) fullShare j :=
  congrArg (fun x : Σ r : Fin 9, Fin (cnt r) => PosShare.pieces (cnt x.1) fullShare x.2) (rd_slot r j)

/-- The slot in which layer `l` receives from partner `j`. -/
def at_ (l : Fin 3) (j : Fin 7) : Fin 21 := ⟨7 * l.val + j.val, by omega⟩

/-- Slot `s` of device `c`'s receive buffer, at any contents. -/
def vacant (c : Dev nD) (s : Fin 21) : sProp 𝕄 := iprop(∃ X, ownsTc c (rcvM s) fullShare X)

/-- What the `j`-th partner of `c` hands `c` with its barrier signal. -/
def barPay (c : Dev nD) (j : Fin 7) : sProp 𝕄 := bigSep Finset.univ fun l : Fin 3 => vacant (F := F) (xr j c) (at_ l j)

variable (V : Fin 9 → Dev nD → FVec F S128x256 .bf16)

/-- The share of the send buffer transfer `s` reads, holding what it sends. -/
def piece (c : Dev nD) (s : Fin 21) : sProp 𝕄 := ownsTc c (sndM (par (rd s))) (qsh s) (V (rd s) c)

/-- Slot `s` of device `c`, holding what its partner sent. -/
def filled (c : Dev nD) (s : Fin 21) : sProp 𝕄 := ownsTc c (rcvM s) fullShare (V (rd s) (xr (tm s) c))

omit [FloatOps F] in
instance vacant_storable (c : Dev nD) (s : Fin 21) : BI.Storable (upEmb : UEmb _ 𝕄) (vacant (F := F) c s) := by
  unfold vacant; infer_instance
omit [FloatOps F] in
instance barPay_storable (c : Dev nD) (j : Fin 7) : BI.Storable (upEmb : UEmb _ 𝕄) (barPay (F := F) c j) := by
  unfold barPay; infer_instance
omit [FloatOps F] in
instance piece_storable (c : Dev nD) (s : Fin 21) : BI.Storable (upEmb : UEmb _ 𝕄) (piece V c s) := by
  unfold piece; infer_instance
omit [FloatOps F] in
instance filled_storable (c : Dev nD) (s : Fin 21) : BI.Storable (upEmb : UEmb _ 𝕄) (filled V c s) := by
  unfold filled; infer_instance

/-- What a transfer's cell hands over. -/
def dmaPay (c : Dev nD) (l : SemLoc sig) : sProp 𝕄 :=
  match asSend l with
  | some s => piece V c s
  | none => match asRecv l with
    | some s => filled V c s
    | none => iprop(emp)

omit [FloatOps F] in
instance dmaPay_storable (c : Dev nD) (l : SemLoc sig) : BI.Storable (upEmb : UEmb _ 𝕄) (dmaPay V c l) := by
  unfold dmaPay; split
  · infer_instance
  · split <;> infer_instance

/-- The duties of a cell: seven for a barrier cell, one for a transfer's cell, each in round 0 only. -/
def cellDuties (l : SemLoc sig) : Finset (Fin 7) :=
  if l = .reg barS then Finset.univ else if (asSend l).isSome ∨ (asRecv l).isSome then {0} else ∅

/-- The protocol. -/
def sched : Rounds.Schedule (GSem nD τ sig) (Fin 7) 𝕄 where
  duties g r := if r = 0 ∧ g.1.2 = .tc then cellDuties g.2 else ∅
  unitless _ := False
  amount g _ _ := if g.2 = .reg barS then 1 else N
  payload g _ d := if g.2 = .reg barS then barPay g.1.1 d else dmaPay V g.1.1 g.2
  amount_pos g _ _ _ := by
    by_cases h : g.2 = .reg barS
    · rw [if_pos h]; exact Nat.one_pos
    · rw [if_neg h]; exact N_pos

omit [FloatOps F] in
instance sched_storable (g : GSem nD τ sig) (r : ℕ) (d : Fin 7) :
    BI.Storable (upEmb : UEmb _ 𝕄) ((sched V).payload g r d) := by
  show BI.Storable upEmb (if g.2 = .reg barS then barPay g.1.1 d else dmaPay V g.1.1 g.2)
  split <;> infer_instance

section Facts
variable (c : Dev nD) (s : Fin 21) (d : Fin 7)

omit [FloatOps F] in
theorem duties_bar : (sched V).duties (barCell c) 0 = Finset.univ := rfl
omit [FloatOps F] in
theorem duties_send : (sched V).duties (sendCell c s) 0 = {0} := by
  show cellDuties (.dma (sendSem s)) = {0}
  unfold cellDuties; rw [if_neg (dma_ne_bar _), asSend_send]; rfl
omit [FloatOps F] in
theorem duties_recv : (sched V).duties (recvCell c s) 0 = {0} := by
  show cellDuties (.dma (recvSem s)) = {0}
  unfold cellDuties; rw [if_neg (dma_ne_bar _), asSend_recv, asRecv_recv]; rfl
omit [FloatOps F] in
theorem duties_later (g : GSem nD τ sig) (r : ℕ) (hr : 1 ≤ r) : (sched V).duties g r = ∅ :=
  if_neg fun h => by omega

omit [FloatOps F] in
theorem amount_bar : (sched V).amount (barCell c) 0 d = 1 := by
  show (if (SemLoc.reg barS : SemLoc sig) = SemLoc.reg barS then 1 else N) = 1
  exact if_pos rfl
omit [FloatOps F] in
theorem amount_dma (q : DmaSem sig) : (sched V).amount ((c : Thread nD τ), .dma q) 0 d = N := by
  show (if SemLoc.dma q = SemLoc.reg barS then 1 else N) = N
  exact if_neg (dma_ne_bar q)

omit [FloatOps F] in
theorem payload_bar : (sched V).payload (barCell c) 0 d = barPay c d := by
  show (if (SemLoc.reg barS : SemLoc sig) = SemLoc.reg barS then barPay c d else dmaPay V c (.reg barS)) = _
  exact if_pos rfl
omit [FloatOps F] in
theorem payload_send : (sched V).payload (sendCell c s) 0 d = piece V c s := by
  show (if SemLoc.dma (sendSem s) = SemLoc.reg barS then barPay c d else dmaPay V c (.dma (sendSem s))) = _
  rw [if_neg (dma_ne_bar _)]; unfold dmaPay; rw [asSend_send]
omit [FloatOps F] in
theorem payload_recv : (sched V).payload (recvCell c s) 0 d = filled V c s := by
  show (if SemLoc.dma (recvSem s) = SemLoc.reg barS then barPay c d else dmaPay V c (.dma (recvSem s))) = _
  rw [if_neg (dma_ne_bar _)]; unfold dmaPay; rw [asSend_recv, asRecv_recv]

omit [FloatOps F] in
theorem expect_bar : (sched V).expect (barCell c) 0 = 7 := by
  unfold Schedule.expect Schedule.amountOf
  rw [duties_bar, Finset.sum_congr rfl fun d _ => amount_bar V c d]; rfl
omit [FloatOps F] in
theorem expect_send : (sched V).expect (sendCell c s) 0 = N := by
  unfold Schedule.expect Schedule.amountOf; rw [duties_send, Finset.sum_singleton, amount_dma]
omit [FloatOps F] in
theorem expect_recv : (sched V).expect (recvCell c s) 0 = N := by
  unfold Schedule.expect Schedule.amountOf; rw [duties_recv, Finset.sum_singleton, amount_dma]

omit [FloatOps F] in
theorem rest_bar : bigSep ((sched V).duties (barCell c) 0 \ ∅) (fun d => (sched V).payload (barCell c) 0 d)
    = bigSep Finset.univ (barPay (F := F) c) := by
  rw [Finset.sdiff_empty, duties_bar]; exact bigSep_congr fun d _ => payload_bar V c d
omit [FloatOps F] in
theorem rest_send : bigSep ((sched V).duties (sendCell c s) 0 \ ∅) (fun d => (sched V).payload (sendCell c s) 0 d)
    = piece V c s := by
  rw [Finset.sdiff_empty, duties_send, bigSep_singleton, payload_send]
omit [FloatOps F] in
theorem rest_recv : bigSep ((sched V).duties (recvCell c s) 0 \ ∅) (fun d => (sched V).payload (recvCell c s) 0 d)
    = filled V c s := by
  rw [Finset.sdiff_empty, duties_recv, bigSep_singleton, payload_recv]

end Facts

/-! ## What a device owes, and the levels that order the waits -/

/-- The receive credits device `c` owes its partners for the transfers from `n` on. -/
def recvOwed (c : Dev nD) (n : ℕ) : CellTallies nD τ sig Unit :=
  ∑ s ∈ Finset.univ.filter (fun s : Fin 21 => n ≤ s.val), tallyAt (recvCell (xr (tm s) c) s) () N

/-- All it owes when the barrier signals from `n` on are to come. -/
def owed (c : Dev nD) (n : ℕ) : CellTallies nD τ sig Unit :=
  recvOwed c 0 + ∑ j ∈ Finset.univ.filter (fun j : Fin 7 => n ≤ j.val), tallyAt (barCell (xr j c)) () 1

theorem from_step {k : ℕ} (s : Fin k) : Finset.univ.filter (fun t : Fin k => s.val ≤ t.val)
    = insert s (Finset.univ.filter fun t : Fin k => s.val + 1 ≤ t.val) := by
  ext t; simp only [Finset.mem_filter, Finset.mem_univ, true_and, Finset.mem_insert, Fin.ext_iff]; omega

theorem recvOwed_step (c : Dev nD) (s : Fin 21) :
    recvOwed c s.val = recvOwed c (s.val + 1) + tallyAt (recvCell (xr (tm s) c) s) () N := by
  unfold recvOwed
  rw [from_step, Finset.sum_insert (by simp), add_comm]

theorem owed_step (c : Dev nD) (j : Fin 7) : owed c j.val = owed c (j.val + 1) + tallyAt (barCell (xr j c)) () 1 := by
  unfold owed
  rw [from_step, Finset.sum_insert (by simp), add_assoc, add_comm (tallyAt _ _ _)]

theorem owed_end (c : Dev nD) : owed c 7 = recvOwed c 0 := by
  unfold owed
  rw [Finset.sum_eq_zero (fun j hj => absurd (Finset.mem_filter.mp hj).2 (by omega)), add_zero]
theorem recvOwed_end (c : Dev nD) : recvOwed c 21 = 0 :=
  Finset.sum_eq_zero (fun j hj => absurd (Finset.mem_filter.mp hj).2 (by omega))

theorem sum_tally_pos {I : Type} (S : Finset I) (f : I → GSem nD τ sig) (k : ℕ) {g : GSem nD τ sig} {u : Unit}
    (h : 0 < (∑ i ∈ S, tallyAt (f i) () k : CellTallies nD τ sig Unit) g u) : ∃ i ∈ S, g = f i := by
  by_contra hn
  push Not at hn
  rw [Finset.sum_apply, Finsupp.finset_sum_apply, Finset.sum_eq_zero (fun i hi => by
    rw [tallyAt_apply, if_neg (fun e => hn i hi e.1)])] at h
  exact Nat.lt_irrefl 0 h

theorem recvOwed_pos {c : Dev nD} {n : ℕ} {g : GSem nD τ sig} {u : Unit} (h : 0 < recvOwed c n g u) :
    ∃ s : Fin 21, n ≤ s.val ∧ g = recvCell (xr (tm s) c) s := by
  obtain ⟨s, hs, e⟩ := sum_tally_pos _ _ _ h
  exact ⟨s, (Finset.mem_filter.mp hs).2, e⟩

theorem owed_pos {c : Dev nD} {n : ℕ} {g : GSem nD τ sig} {u : Unit} (h : 0 < owed c n g u) :
    (∃ s : Fin 21, g = recvCell (xr (tm s) c) s) ∨ ∃ j : Fin 7, n ≤ j.val ∧ g = barCell (xr j c) := by
  unfold owed at h
  rw [Pi.add_apply, Finsupp.add_apply] at h
  rcases Nat.eq_zero_or_pos (recvOwed c 0 g u) with h0 | h0
  · rw [h0, zero_add] at h
    obtain ⟨j, hj, e⟩ := sum_tally_pos _ _ _ h
    exact Or.inr ⟨j, (Finset.mem_filter.mp hj).2, e⟩
  · obtain ⟨s, -, e⟩ := recvOwed_pos h0
    exact Or.inl ⟨s, e⟩

/-- Every cell of a TensorCore has a level. -/
def L (g : GSem nD τ sig) : Finset Unit := if g.1.2 = .tc then {()} else ∅
/-- Receive cell `s` is at level `2 + s`, barrier cells at 1, all others at 0: a device waits on a cell only while
    what it owes lies above. -/
def lv (g : GSem nD τ sig) (_ : Unit) : ℕ :=
  if g.2 = .reg barS then 1 else match asRecv g.2 with | some s => 2 + s.val | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (s : Fin 21) : lv (recvCell c s) () = 2 + s.val := by
  unfold lv; rw [if_neg (dma_ne_bar _), asRecv_recv]

omit [FloatOps F] in
/-- A wait at a level below all that is owed. -/
theorem mayWait_below (c : Dev nD) (sm : SemLoc sig) (k : ℕ) (O : CellTallies nD τ sig Unit)
    (hsm : lv ((c : Thread nD τ), sm) () ≤ k) (hO : ∀ g u, 0 < O g u → g.1.2 = .tc ∧ k < lv g u) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm) (fun g u hg => (hO g u hg).2)

omit [FloatOps F] in
/-- Device `c` may wait on its barrier cell when it owes receive credits only. -/
theorem mayWait_bar (c : Dev nD) : (levAts L lv : sProp 𝕄) ⊢ MayWait (c : Thread nD τ) (.reg barS) () (recvOwed c 0) :=
  mayWait_below c _ 1 _ (lv_bar c).le fun g u hg => by
    obtain ⟨s, -, rfl⟩ := recvOwed_pos hg
    exact ⟨rfl, by rw [lv_recv]; omega⟩

omit [FloatOps F] in
/-- It may wait on receive cell `s` once it has sent transfer `s` and all before it. -/
theorem mayWait_recv (c : Dev nD) (s : Fin 21) (n : ℕ) (h : s.val < n) :
    (levAts L lv : sProp 𝕄) ⊢ MayWait (c : Thread nD τ) (.dma (recvSem s)) () (recvOwed c n) :=
  mayWait_below c _ (2 + s.val) _ (lv_recv c s).le fun g u hg => by
    obtain ⟨t, ht, rfl⟩ := recvOwed_pos hg
    exact ⟨rfl, by rw [lv_recv]; omega⟩

omit [FloatOps F] in
/-- It may always wait on a transfer cell that is no receive cell. -/
theorem mayWait_low (c : Dev nD) (q : DmaSem sig) (hq : asRecv (.dma q) = none) (O : CellTallies nD τ sig Unit)
    (hO : ∀ g u, 0 < O g u → (∃ d s, g = recvCell d s) ∨ ∃ d, g = barCell d) :
    (levAts L lv : sProp 𝕄) ⊢ MayWait (c : Thread nD τ) (.dma q) () O :=
  mayWait_below c _ 0 _ (by unfold lv; rw [if_neg (dma_ne_bar _), hq]) fun g u hg => by
    rcases hO g u hg with ⟨d, s, rfl⟩ | ⟨d, rfl⟩
    · exact ⟨rfl, by rw [lv_recv]; omega⟩
    · exact ⟨rfl, by rw [lv_bar]; omega⟩

end Cert.AllReduce

end
-- ==== Proof.Steps.lean ====
/-
# The kernel's steps

Between two steps of the body, device `c` is in a state `St c b nW nS nR R`: it has stored the operands of the rounds
below `b`, sent the transfers below `nS`, seen those below `nW` read out, received those below `nR`, and holds `R`
besides. Before the barrier it is in `Pre c n R`, with `n` of its seven signals made. Each lemma takes a state over one
operation of the body: to show that the program runs from the state before, it is enough that the rest runs from the
state after.
-/
module

public import proofs.«01_k».proof.Proof.Cells

@[expose] public section

set_option Elab.async false

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (V : Fin 9 → Dev nD → FVec F S128x256 .bf16)

/-! ## Focusing on part of a family -/

omit [FloatOps F] in
/-- A family is part of it and the rest. -/
theorem bigSep_part {I : Type} [DecidableEq I] {s t : Finset I} (h : t ⊆ s) {Φ : I → sProp 𝕄} :
    bigSep s Φ = iprop(bigSep t Φ ∗ bigSep (s \ t) Φ) := bigSep_sdiff_split h

omit [FloatOps F] in
/-- A family has each of its members. -/
theorem bigSep_member {I : Type} [DecidableEq I] {s : Finset I} {i : I} (h : i ∈ s) {Φ : I → sProp 𝕄} :
    (bigSep s Φ : sProp 𝕄) ⊢ Φ i := bigSep_elim h

omit [FloatOps F] in
/-- Part of a family is taken out, and put back changed. -/
theorem bigSep_focus {I : Type} [Fintype I] [DecidableEq I] (S : Finset I) {Φ Φ' : I → sProp 𝕄}
    (h : ∀ i ∉ S, Φ i = Φ' i) :
    bigSep Finset.univ Φ ⊢ iprop(bigSep S Φ ∗ (bigSep S Φ' -∗ bigSep Finset.univ Φ')) := by
  rw [bigSep_part (Finset.subset_univ S) (Φ := Φ), bigSep_part (Finset.subset_univ S) (Φ := Φ'),
    bigSep_congr (s := Finset.univ \ S) (fun i hi => h i (Finset.mem_sdiff.mp hi).2)]
  iintro ⟨H1, H2⟩
  isplitl [H1]; · iexact H1
  iintro H1
  isplitl [H1] <;> iassumption

omit [FloatOps F] in
/-- One member of a family is taken out, and put back changed. -/
theorem bigSep_focus_at {I : Type} [Fintype I] [DecidableEq I] (a : I) {Φ Φ' : I → sProp 𝕄}
    (h : ∀ i, i ≠ a → Φ i = Φ' i) :
    bigSep Finset.univ Φ ⊢ iprop(Φ a ∗ (Φ' a -∗ bigSep Finset.univ Φ')) := by
  have := bigSep_focus (F := F) {a} (Φ := Φ) (Φ' := Φ') fun i hi => h i (fun e => hi (Finset.mem_singleton.mpr e))
  rwa [bigSep_singleton, bigSep_singleton] at this

/-! ## The states -/

/-- A cell follows the protocol. -/
def cellOk (g : GSem nD τ sig) : sProp 𝕄 := iprop((∃ κ : ℕ, cellInv ER (sched V) κ g) ∗ reached ER g 0)

/-- Every cell does, and the levels are fixed. -/
def ctx : sProp 𝕄 :=
  iprop((bigSep Finset.univ fun d : Dev nD => cellOk V (barCell d))
    ∗ (bigSep Finset.univ fun p : Dev nD × Fin 21 => cellOk V (sendCell p.1 p.2))
    ∗ (bigSep Finset.univ fun p : Dev nD × Fin 21 => cellOk V (recvCell p.1 p.2))
    ∗ levAts L lv)

omit [FloatOps F] in
instance cellOk_persistent (g : GSem nD τ sig) : BI.Persistent (cellOk V g) := by unfold cellOk; infer_instance
omit [FloatOps F] in
instance ctx_persistent : BI.Persistent (ctx V) := by unfold ctx; infer_instance

omit [FloatOps F] in
theorem ctx_bar (d : Dev nD) : ctx V ⊢ cellOk V (barCell d) := by
  unfold ctx; iintro ⟨H, -, -, -⟩
  iapply (bigSep_member (Finset.mem_univ d) (Φ := fun d : Dev nD => cellOk V (barCell d))); iexact H
omit [FloatOps F] in
theorem ctx_send (d : Dev nD) (s : Fin 21) : ctx V ⊢ cellOk V (sendCell d s) := by
  unfold ctx; iintro ⟨-, H, -, -⟩
  iapply (bigSep_member (Finset.mem_univ (d, s)) (Φ := fun p : Dev nD × Fin 21 => cellOk V (sendCell p.1 p.2))); iexact H
omit [FloatOps F] in
theorem ctx_recv (d : Dev nD) (s : Fin 21) : ctx V ⊢ cellOk V (recvCell d s) := by
  unfold ctx; iintro ⟨-, -, H, -⟩
  iapply (bigSep_member (Finset.mem_univ (d, s)) (Φ := fun p : Dev nD × Fin 21 => cellOk V (recvCell p.1 p.2))); iexact H
omit [FloatOps F] in
theorem ctx_wait_bar (c : Dev nD) : ctx V ⊢ MayWait (c : Thread nD τ) (.reg barS) () (recvOwed c 0) := by
  unfold ctx; iintro ⟨-, -, -, H⟩; iapply (mayWait_bar c); iexact H
omit [FloatOps F] in
theorem ctx_wait_recv (c : Dev nD) (s : Fin 21) (n : ℕ) (h : s.val < n) :
    ctx V ⊢ MayWait (c : Thread nD τ) (.dma (recvSem s)) () (recvOwed c n) := by
  unfold ctx; iintro ⟨-, -, -, H⟩; iapply (mayWait_recv c s n h); iexact H
omit [FloatOps F] in
theorem ctx_wait_send (c : Dev nD) (s : Fin 21) (n : ℕ) :
    ctx V ⊢ MayWait (c : Thread nD τ) (.dma (sendSem s)) () (recvOwed c n) := by
  unfold ctx; iintro ⟨-, -, -, H⟩
  iapply (mayWait_low c (sendSem s) (asRecv_send s) (recvOwed c n) (fun g u hg => Or.inl ((recvOwed_pos hg).elim fun s h => ⟨_, s, h.2⟩)))
  iexact H

/-- What device `c` needs for transfer `s`: the two duties it discharges and the slot it fills. -/
def kit (c : Dev nD) (s : Fin 21) : sProp 𝕄 :=
  iprop(dutyTok ER (sendCell c s) 0 0 ∗ dutyTok ER (recvCell (xr (tm s) c) s) 0 0 ∗ vacant (xr (tm s) c) s)

/-- Device `c`'s send side of transfer `s`, from not begun (0) over stored (1), sent (2) and read out (3) to given up
    to a later round (4). -/
def sendAt (c : Dev nD) (s : Fin 21) : Fin 5 → sProp 𝕄 := ![
  iprop(kit c s ∗ atPos ER (sendCell c s) 0 ∅ 0),
  iprop((kit c s ∗ atPos ER (sendCell c s) 0 ∅ 0) ∗ piece V c s),
  iprop(atPos ER (sendCell c s) 0 ∅ 0 ∗ cred (tallyAt (sendCell c s) () N)),
  iprop(semVal (sendCell c s) 0 ∗ piece V c s),
  semVal (sendCell c s) 0]

/-- How far transfer `s` is when the operands below round `b` are stored, the transfers below `nS` sent and those
    below `nW` read out: a round's operand is stored where that of two rounds before was. -/
def status (b nW nS : ℕ) (s : Fin 21) : Fin 5 :=
  if (rd s).val + 2 < b then 4 else if s.val < nW then 3 else if s.val < nS then 2 else if (rd s).val < b then 1 else 0

/-- Device `c`'s receive side of transfer `s`. -/
def recvAt (c : Dev nD) (nR : ℕ) (s : Fin 21) : sProp 𝕄 :=
  if s.val < nR then iprop(semVal (recvCell c s) 0 ∗ filled V c s)
  else iprop(atPos ER (recvCell c s) 0 ∅ 0 ∗ cred (tallyAt (recvCell c s) () N))

/-- Half `p` of device `c`'s send buffer, at any contents. -/
def free (c : Dev nD) (p : Fin 2) : sProp 𝕄 := iprop(∃ X, ownsTc c (sndM p) fullShare X)

/-- The halves of the send buffer not used yet. -/
def freeAt (c : Dev nD) (b : ℕ) (p : Fin 2) : sProp 𝕄 := if b ≤ p.val then free c p else iprop(emp)

/-- The state after the barrier. -/
def St (c : Dev nD) (b nW nS nR : ℕ) (R : sProp 𝕄) : sProp 𝕄 :=
  iprop(ctx V ∗ semVal (barCell c) 0 ∗ (∃ W, owes (c : Thread nD τ) (recvOwed c nS) W)
    ∗ (bigSep Finset.univ (freeAt c b))
    ∗ (bigSep Finset.univ fun s => sendAt V c s (status b nW nS s))
    ∗ (bigSep Finset.univ (recvAt V c nR)) ∗ R)

/-- What device `c` hands its `j`-th partner with its barrier signal, and the duty it discharges. -/
def barKit (c : Dev nD) (j : Fin 7) : sProp 𝕄 := iprop(dutyTok ER (barCell (xr j c)) 0 j ∗ barPay (xr j c) j)

/-- The two duties of transfer `s`, and the position of its send cell. -/
def sendStart (c : Dev nD) (s : Fin 21) : sProp 𝕄 :=
  iprop((dutyTok ER (sendCell c s) 0 0 ∗ dutyTok ER (recvCell (xr (tm s) c) s) 0 0) ∗ atPos ER (sendCell c s) 0 ∅ 0)

/-- The state before the barrier. -/
def Pre (c : Dev nD) (n : ℕ) (R : sProp 𝕄) : sProp 𝕄 :=
  iprop(ctx V ∗ (atPos ER (barCell c) 0 ∅ 0 ∗ cred (tallyAt (barCell c) () 7)) ∗ (∃ W, owes (c : Thread nD τ) (owed c n) W)
    ∗ (bigSep Finset.univ fun j : Fin 7 => if j.val < n then iprop(emp) else barKit c j)
    ∗ (bigSep Finset.univ (freeAt c 0))
    ∗ (bigSep Finset.univ (sendStart c))
    ∗ (bigSep Finset.univ (recvAt V c 0)) ∗ R)

section Steps

variable {α : Type} {Q : α → sProp (MT nD τ sig Unit (Elt F) ℕ UU ℕ)} {k : PUnit → Prog (TpuEff nD τ sig (Elt F) Λ₀ .tc) α}
  {c : Dev nD} {R R' : sProp (MT nD τ sig Unit (Elt F) ℕ UU ℕ)}

local notation "WP" => wp frame (wpE (defs₀ (F := F)) 𝒱₀ (c : Thread nD τ) none) Set.univ

set_option maxRecDepth 8000 in
/-- The barrier signal to partner `j`. -/
theorem step_signal (j : Fin 7) {d : Dev nD} (hd : d = xr j c) (h : Pre V c (j.val + 1) R ⊢ WP (k ⟨⟩) Q) :
    Pre V c j.val R ⊢ WP (.op (.semSignal (d : Thread nD τ) barS ((1 : ℕ) : ℤ)) k) Q := by
  subst hd
  unfold Pre
  iintro ⟨#HC, Hbar, ⟨%W, HO⟩, Hkit, Hfree, Hsend, Hrecv, HR⟩
  ihave Hk := (bigSep_focus_at (F := F) j (Φ := fun i : Fin 7 => if i.val < j.val then iprop(emp) else barKit c i)
    (Φ' := fun i : Fin 7 => if i.val < j.val + 1 then iprop(emp) else barKit c i) (fun i hi => by
      have : i.val ≠ j.val := fun e => hi (Fin.ext e)
      by_cases h : i.val < j.val
      · rw [if_pos h, if_pos (by omega)]
      · rw [if_neg h, if_neg (by omega)])) $$ Hkit
  icases Hk with ⟨Hj, Hback⟩
  ihave Hj' := (Entails.of_eq (if_neg (Nat.lt_irrefl j.val))) $$ Hj
  unfold barKit
  icases Hj' with ⟨Htok, Hpay⟩
  ihave #Hcell := (ctx_bar V (xr j c)) $$ HC
  unfold cellOk
  icases Hcell with ⟨⟨%κ, #HI⟩, #Hr⟩
  iapply (Rounds.wp_signal 𝒱₀ ER (sched V) (c : Thread nD τ) none (dst := (xr j c : Thread nD τ)) (κ := κ)
      (d := j) (by rw [duties_bar]; exact Finset.mem_univ _) (amount_bar V (xr j c) j) () (owed c (j.val + 1)) (owed_step c j))
    $$ [HO Htok Hpay]
  · isplitr; · iexact HI
    isplitl [HO]; · iexact HO
    isplitl [Htok]; · iexact Htok
    isplitl [Hpay]; · rw [payload_bar]; iexact Hpay
    iexact Hr
  iintro HO
  iapply h
  unfold Pre
  isplitr; · iexact HC
  isplitl [Hbar]; · iexact Hbar
  isplitl [HO]; · iexists W; iexact HO
  isplitl [Hback]
  · iapply Hback
    rw [if_pos (Nat.lt_succ_self j.val)]; iempintro
  isplitl [Hfree]; · iexact Hfree
  isplitl [Hsend]; · iexact Hsend
  isplitl [Hrecv]; · iexact Hrecv
  iexact HR

/-- A landing slot is a layer and a partner. -/
def at_equiv : Fin 7 × Fin 3 ≃ Fin 21 where
  toFun p := at_ p.2 p.1
  invFun s := (tm s, ⟨s.val / 7, by omega⟩)
  left_inv := by decide
  right_inv := by decide

theorem tm_at (l : Fin 3) (j : Fin 7) : tm (at_ l j) = j := by revert l j; decide

omit [FloatOps F] in
/-- What the seven partners hand over is every slot the device will write to. -/
theorem bar_slots (c : Dev nD) :
    bigSep Finset.univ (barPay (F := F) c) = bigSep Finset.univ fun s : Fin 21 => vacant (F := F) (xr (tm s) c) s := by
  unfold barPay
  rw [← bigSep_univ_prod (fun p : Fin 7 × Fin 3 => vacant (F := F) (xr p.1 c) (at_ p.2 p.1)),
    bigSep_univ_equiv at_equiv (fun s : Fin 21 => vacant (F := F) (xr (tm s) c) s)]
  exact bigSep_congr fun p _ => by show _ = vacant (xr (tm (at_ p.2 p.1)) c) (at_ p.2 p.1); rw [tm_at]

set_option maxRecDepth 8000 in
/-- The wait for all seven partners. -/
theorem step_barrier (h : St V c 0 0 0 0 R ⊢ WP (k ⟨⟩) Q) :
    Pre V c 7 R ⊢ WP (.op (.semWait barS ((7 : ℕ) : ℤ)) k) Q := by
  unfold Pre
  iintro ⟨#HC, ⟨Hat, Hcr⟩, ⟨%W, HO⟩, Hkit, Hfree, Hsend, Hrecv, HR⟩
  ihave #Hcell := (ctx_bar V c) $$ HC
  unfold cellOk
  icases Hcell with ⟨⟨%κ, #HI⟩, #Hr⟩
  rw [owed_end]
  iapply (Rounds.wp_wait_rest_token 𝒱₀ ER (sched V) (c : Thread nD τ) none (κ := κ)
      (wpE_semWait_eq 𝒱₀ (c : Thread nD τ) none Set.univ) (Set.mem_univ _) () (O := recvOwed c 0) (W := W) (R := 0) (m := 0) (T := ∅)
      (by rw [expect_bar])) $$ [Hcr HO Hat]
  · isplitr; · iexact HI
    isplitl [Hcr]; · iexact Hcr
    isplitl [HO]; · iexact HO
    isplitr; · iapply (ctx_wait_bar V c); iexact HC
    iexact Hat
  iintro ⟨HO, Hat, -, Hpay⟩
  imod (Rounds.cell_close ER (sched V) (Set.mem_univ κ) (fun h => h) (R := 0 + 1) (duties_later V (barCell c))) $$ [Hat] with Hz
  · isplitr; · iexact HI
    iexact Hat
  ihave Hp := (Entails.of_eq ((rest_bar V c).trans (bar_slots c))) $$ Hpay
  iapply h
  unfold St
  isplitr; · iexact HC
  isplitl [Hz]; · iexact Hz
  isplitl [HO]; · iexists _; iexact HO
  isplitl [Hfree]; · iexact Hfree
  isplitl [Hsend Hp]
  · iapply (show iprop((bigSep Finset.univ (sendStart c)) ∗ bigSep Finset.univ fun s : Fin 21 => vacant (F := F) (xr (tm s) c) s)
      ⊢ bigSep Finset.univ fun s => sendAt V c s (status 0 0 0 s) from by
        rw [← bigSep_sep']
        refine bigSep_mono fun s _ => ?_
        show _ ⊢ iprop(kit c s ∗ atPos ER (sendCell c s) 0 ∅ 0)
        unfold sendStart kit
        iintro ⟨⟨⟨H1, H2⟩, H3⟩, H4⟩
        isplitr [H3]
        · isplitl [H1]; · iexact H1
          isplitl [H2] <;> iassumption
        iexact H3)
    isplitl [Hsend] <;> iassumption
  isplitl [Hrecv]; · iexact Hrecv
  iexact HR

/-! ### The send buffer -/

theorem sndM_set (p : Fin 2) : (sndM p).view.set = (sndB.access (sndR p)).set := Memref.set_view_squeeze _ _

omit [FloatOps F] in
/-- What a half reads after a store. -/
theorem read_filled (p : Fin 2) (f : sndB.view.ty.Contents (Elt F)) (w : FVec F S1x128x256 .bf16) :
    (sndM p).view.read (Elt F) ((sndB.access (sndR p)).write (Elt F) f w Finset.univ)
      = shapeCast S128x256 w shapeCasts_S1x128x256_S128x256 := by
  rw [Memref.read_squeeze_slice sndB (sndR p) (fun _ => rfl) squeezes_S1x128x256_S128x256 shapeCasts_S1x128x256_S128x256]
  have h : sndB.view.readAt (Elt F) (sndR p).toLoadRect ((sndB.access (sndR p)).write (Elt F) f w Finset.univ) = w :=
    View.read_write_univ (v := sndB.access (sndR p)) f w
  rw [h]

/-- Half `p` is loaded, for nothing, and stored. -/
theorem wp_fill (p : Fin 2) {w : FVec F S1x128x256 .bf16} (X : FVec F S128x256 .bf16)
    (hw : shapeCast S128x256 w shapeCasts_S1x128x256_S128x256 = X)
    {hl : sndB.view.LoadsAt (sndR p).toLoadRect} {hx : (sndB.access (sndR p)).Stores Finset.univ}
    {hm : (Finset.univ : Finset (sndR p).shape.Idx) = Finset.univ ∨ ∀ a, (sndR p).stride a = 1} :
    free c p ⊢ iprop((ownsTc c (sndM p) fullShare X -∗ WP (k ⟨⟩) Q)
      -∗ WP (.op (.load sndB (sndR p).toLoadRect hl) fun _ => .op (.store sndB (sndR p) w Finset.univ hx hm) k) Q) := by
  unfold free ownsTc owns
  iintro ⟨%Y, %f, -, Hf⟩ Hk
  iapply (wp_load_rect 𝒱₀ (c : Thread nD τ) none Set.univ (m := sndB) (r := sndR p) (S := (sndM p).view.set)
    (by rw [sndM_set])) $$ Hf
  iintro Hf
  iapply (wp_store 𝒱₀ (c : Thread nD τ) none Set.univ (m := sndB) (r := sndR p) (Mk := Finset.univ) (S := (sndM p).view.set)
    (by rw [sndM_set]; exact Finset.Subset.refl _)) $$ Hf
  iintro Hf
  iapply Hk
  iexists _
  isplitr
  rotate_left
  · iexact Hf
  · ipureintro
    exact (read_filled p f w).trans hw

omit [FloatOps F] in
/-- A filled half is dealt out to the transfers of its round, -/
theorem deal (c : Dev nD) (r : Fin 9) :
    ownsTc c (sndM (par r)) fullShare (V r c) ⊢ bigSep (slots r) (piece V c) := by
  unfold slots
  rw [bigSep_map]
  refine (ownsSat_pieces (c : Thread nD τ) (sndM (par r)) (Val := Elt F) (e := .bf16) (fun X => X = V r c) (cnt r) (cnt_pos r) fullShare).1.trans ?_
  refine bigSep_mono fun j _ => ?_
  exact Entails.of_eq (congrArg (fun x : Σ r : Fin 9, Fin (cnt r) =>
    (ownsTc c (sndM (par x.1)) (PosShare.pieces (cnt x.1) fullShare x.2) (V x.1 c) : sProp 𝕄)) (rd_slot r j).symm)
omit [FloatOps F] in
/-- and collected from them. -/
theorem collect (c : Dev nD) (r : Fin 9) : bigSep (slots r) (piece V c) ⊢ free c (par r) := by
  unfold slots
  rw [bigSep_map]
  refine BI.Entails.trans ?_ (show ownsTc c (sndM (par r)) fullShare (V r c) ⊢ free c (par r) from by
    unfold free; iintro H; iexists _; iexact H)
  refine BI.Entails.trans ?_ (ownsSat_pieces (c : Thread nD τ) (sndM (par r)) (Val := Elt F) (e := .bf16) (fun X => X = V r c) (cnt r) (cnt_pos r) fullShare).2
  refine bigSep_mono fun j _ => ?_
  exact Entails.of_eq (congrArg (fun x : Σ r : Fin 9, Fin (cnt r) =>
    (ownsTc c (sndM (par x.1)) (PosShare.pieces (cnt x.1) fullShare x.2) (V x.1 c) : sProp 𝕄)) (rd_slot r j))

end Steps

end Cert.AllReduce

end
-- ==== Proof.Moves.lean ====
/-
# The kernel's steps, continued

The steps after the barrier: storing a round's operand, sending a transfer, waiting for it to be read out, waiting for
the partner's, reading it, and the loads and the store of the operands and the result. Each lemma takes a state `St`
over one operation of the body.
-/
module

public import proofs.«01_k».proof.Proof.Steps

@[expose] public section

set_option Elab.async false

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 9 → Dev nD → FVec F S128x256 .bf16)

section Steps

variable {α : Type} {Q : α → sProp (MT nD τ sig Unit (Elt F) ℕ UU ℕ)} {k : PUnit → Prog (TpuEff nD τ sig (Elt F) Λ₀ .tc) α}
  {c : Dev nD} {R R' : sProp (MT nD τ sig Unit (Elt F) ℕ UU ℕ)}

local notation "WP" => wp frame (wpE (defs₀ (F := F)) 𝒱₀ (c : Thread nD τ) none) Set.univ

/-! ### Storing a round's operand -/

omit [FloatOps F] in
/-- The transfers of a round take over what they will read. -/
theorem send_stored (r : Fin 9) (nW nS : ℕ) (S : Finset (Fin 21)) (hS : Disjoint (slots r) S)
    (hn : ∀ i ∈ slots r, status r.val nW nS i = 0 ∧ status (r.val + 1) nW nS i = 1)
    (ho : ∀ i ∈ S, status r.val nW nS i = 3 ∧ status (r.val + 1) nW nS i = 4)
    (hu : ∀ i, i ∉ slots r ∪ S → status r.val nW nS i = status (r.val + 1) nW nS i) :
    (bigSep Finset.univ fun s => sendAt V c s (status r.val nW nS s))
      ⊢ iprop((bigSep S (piece V c)) ∗ (bigSep (slots r) (piece V c)
          -∗ bigSep Finset.univ fun s => sendAt V c s (status (r.val + 1) nW nS s))) := by
  iintro H
  ihave H' := (bigSep_focus (F := F) (slots r ∪ S) (Φ := fun s => sendAt V c s (status r.val nW nS s))
    (Φ' := fun s => sendAt V c s (status (r.val + 1) nW nS s)) (fun i hi => by rw [hu i hi])) $$ H
  icases H' with ⟨H1, Hback⟩
  ihave H2 := (show (bigSep (slots r ∪ S) fun s => sendAt V c s (status r.val nW nS s))
      ⊢ iprop((bigSep (slots r) fun s => iprop(kit c s ∗ atPos ER (sendCell c s) 0 ∅ 0))
        ∗ (bigSep S fun s => semVal (sendCell c s) 0) ∗ bigSep S (piece V c)) from by
    rw [bigSep_union hS, ← bigSep_sep',
      bigSep_congr (s := slots r) (Φ := fun s => sendAt V c s (status r.val nW nS s))
        (Ψ := fun s => iprop(kit c s ∗ atPos ER (sendCell c s) 0 ∅ 0)) (fun i hi => by rw [(hn i hi).1]; rfl),
      bigSep_congr (s := S) (Φ := fun s => sendAt V c s (status r.val nW nS s))
        (Ψ := fun s => iprop(semVal (sendCell c s) 0 ∗ piece V c s)) (fun i hi => by rw [(ho i hi).1]; rfl)]
    exact .rfl) $$ H1
  icases H2 with ⟨Hk, Hz, Hp⟩
  isplitl [Hp]; · iexact Hp
  iintro Hnew
  iapply Hback
  iapply (show iprop(((bigSep (slots r) fun s => iprop(kit c s ∗ atPos ER (sendCell c s) 0 ∅ 0)) ∗ bigSep (slots r) (piece V c))
        ∗ (bigSep S fun s => semVal (sendCell c s) 0))
      ⊢ (bigSep (slots r ∪ S) fun s => sendAt V c s (status (r.val + 1) nW nS s)) from by
    rw [bigSep_union hS, ← bigSep_sep',
      bigSep_congr (s := slots r) (Ψ := fun s => sendAt V c s (status (r.val + 1) nW nS s)) (fun i hi => by rw [(hn i hi).2]; rfl),
      bigSep_congr (s := S) (Ψ := fun s => sendAt V c s (status (r.val + 1) nW nS s)) (fun i hi => by rw [(ho i hi).2]; rfl)]
    exact .rfl)
  isplitl [Hk Hnew]
  · isplitl [Hk] <;> iassumption
  iexact Hz

/-- The first two rounds' operands go to halves not used before. -/
theorem step_store_first (r : Fin 9) (hr : r.val < 2) {nR : ℕ} {w : FVec F S1x128x256 .bf16}
    (hw : shapeCast S128x256 w shapeCasts_S1x128x256_S128x256 = V r c) (nW nS : ℕ)
    (hn : ∀ i ∈ slots r, status r.val nW nS i = 0 ∧ status (r.val + 1) nW nS i = 1)
    (hu : ∀ i, i ∉ slots r ∪ ∅ → status r.val nW nS i = status (r.val + 1) nW nS i)
    {hl : sndB.view.LoadsAt (sndR (par r)).toLoadRect} {hx : (sndB.access (sndR (par r))).Stores Finset.univ}
    {hm : (Finset.univ : Finset (sndR (par r)).shape.Idx) = Finset.univ ∨ ∀ a, (sndR (par r)).stride a = 1}
    (h : St V c (r.val + 1) nW nS nR R ⊢ WP (k ⟨⟩) Q) :
    St V c r.val nW nS nR R
      ⊢ WP (.op (.load sndB (sndR (par r)).toLoadRect hl) fun _ => .op (.store sndB (sndR (par r)) w Finset.univ hx hm) k) Q := by
  unfold St
  iintro ⟨#HC, Hz, HO, Hfree, Hsend, Hrecv, HR⟩
  ihave Hf := (bigSep_focus_at (F := F) (par r) (Φ := freeAt c r.val) (Φ' := freeAt c (r.val + 1)) (fun i hi => by
    have h1 : (par r).val = r.val := Nat.mod_eq_of_lt hr
    have h2 : i.val ≠ (par r).val := fun e => hi (Fin.ext e)
    unfold freeAt
    by_cases h3 : r.val ≤ i.val
    · rw [if_pos h3, if_pos (by omega)]
    · rw [if_neg h3, if_neg (by omega)])) $$ Hfree
  icases Hf with ⟨Hf, Hback⟩
  ihave Hf' := (Entails.of_eq (show freeAt (F := F) c r.val (par r) = free c (par r) from if_pos (Nat.mod_eq_of_lt hr).ge)) $$ Hf
  ihave Hs := (send_stored V r nW nS ∅ (Finset.disjoint_empty_right _) hn (fun i hi => absurd hi (Finset.notMem_empty i)) hu) $$ Hsend
  icases Hs with ⟨-, Hs⟩
  iapply (wp_fill (par r) (V r c) hw) $$ Hf'
  iintro Hown
  ihave Hp := (deal V c r) $$ Hown
  ihave Hs' := Hs $$ Hp
  iapply h
  unfold St
  isplitr; · iexact HC
  isplitl [Hz]; · iexact Hz
  isplitl [HO]; · iexact HO
  isplitl [Hback]
  · iapply Hback
    unfold freeAt
    rw [if_neg (show ¬ r.val + 1 ≤ (par r).val from by have : (par r).val = r.val := Nat.mod_eq_of_lt hr; omega)]
    iempintro
  isplitl [Hs']; · iexact Hs'
  isplitl [Hrecv]; · iexact Hrecv
  iexact HR

/-- A later round's operand goes where that of two rounds before was, once its transfers are read out. -/
theorem step_store (q r : Fin 9) (hq : q.val + 2 = r.val) {nR : ℕ} {w : FVec F S1x128x256 .bf16}
    (hw : shapeCast S128x256 w shapeCasts_S1x128x256_S128x256 = V r c) (nW nS : ℕ)
    (hS : Disjoint (slots r) (slots q))
    (hn : ∀ i ∈ slots r, status r.val nW nS i = 0 ∧ status (r.val + 1) nW nS i = 1)
    (ho : ∀ i ∈ slots q, status r.val nW nS i = 3 ∧ status (r.val + 1) nW nS i = 4)
    (hu : ∀ i, i ∉ slots r ∪ slots q → status r.val nW nS i = status (r.val + 1) nW nS i)
    {hl : sndB.view.LoadsAt (sndR (par r)).toLoadRect} {hx : (sndB.access (sndR (par r))).Stores Finset.univ}
    {hm : (Finset.univ : Finset (sndR (par r)).shape.Idx) = Finset.univ ∨ ∀ a, (sndR (par r)).stride a = 1}
    (h : St V c (r.val + 1) nW nS nR R ⊢ WP (k ⟨⟩) Q) :
    St V c r.val nW nS nR R
      ⊢ WP (.op (.load sndB (sndR (par r)).toLoadRect hl) fun _ => .op (.store sndB (sndR (par r)) w Finset.univ hx hm) k) Q := by
  have hpar : par q = par r := Fin.ext (by show q.val % 2 = r.val % 2; omega)
  unfold St
  iintro ⟨#HC, Hz, HO, Hfree, Hsend, Hrecv, HR⟩
  ihave Hs := (send_stored V r nW nS (slots q) hS hn ho hu) $$ Hsend
  icases Hs with ⟨Hold, Hs⟩
  ihave Hf := ((collect V c q).trans (Entails.of_eq (by rw [hpar]))) $$ Hold
  iapply (wp_fill (par r) (V r c) hw) $$ Hf
  iintro Hown
  ihave Hp := (deal V c r) $$ Hown
  ihave Hs' := Hs $$ Hp
  iapply h
  unfold St
  isplitr; · iexact HC
  isplitl [Hz]; · iexact Hz
  isplitl [HO]; · iexact HO
  isplitl [Hfree]
  · iapply (show (bigSep Finset.univ (freeAt (F := F) c r.val)) ⊢ bigSep Finset.univ (freeAt (F := F) c (r.val + 1)) from
      Entails.of_eq (bigSep_congr fun p _ => by
        have := p.isLt
        unfold freeAt; rw [if_neg (by omega), if_neg (by omega)]))
    iexact Hfree
  isplitl [Hs']; · iexact Hs'
  isplitl [Hrecv]; · iexact Hrecv
  iexact HR

/-! ### A transfer -/

/-- What device `c` sends in transfer `s` arrives at its partner as what the partner awaits. -/
theorem arrives (s : Fin 21) (d : Dev nD) (hd : d = xr (tm s) c) (X : FVec F S128x256 .bf16) (hX : X = V (rd s) c)
    (fd : (rcvM s).view.ty.Contents (Elt F)) :
    ((rcvM s).view.loc (d : Thread nD τ) ↦[(rcvM s).view.set]{fullShare} ((rcvM s).view.write (Elt F) fd X Finset.univ))
      ⊢ filled V d s := by
  subst hd
  unfold filled ownsTc owns
  rw [xr_xr, ← hX]
  iintro H
  iexists _
  isplitr
  rotate_left
  · iexact H
  · ipureintro
    exact View.read_write_univ fd X

/-- Transfer `s` is sent to its partner. -/
theorem step_send (s : Fin 21) {b nW nR : ℕ} {d : Dev nD} (hd : d = xr (tm s) c)
    (hs : status b nW s.val s = 1) (hs' : status b nW (s.val + 1) s = 2)
    {hsc : (rcvM s : Memref sig (Dev.tc d : Thread nD τ).2.kind .vmem S128x256 .bf16).view.ref.isScScratch = false}
    {hsrc : (sndM (par (rd s))).view.WordExact}
    {hdst : (rcvM s : Memref sig (Dev.tc d : Thread nD τ).2.kind .vmem S128x256 .bf16).view.WordExact}
    {hsem : DmaTarget.Typed .vmem (.dma (((cc0_scratch3.slice (Rect.unit (s := S21) ![s.val] S1.size (inbQ s))).squeeze S_ squeezes_S1_S_).sem))
      (.remote (Dev.tc d : Thread nD τ) (rcvM s : Memref sig (Dev.tc d : Thread nD τ).2.kind .vmem S128x256 .bf16)
        (.dma (((cc0_scratch2.slice (Rect.unit (s := S21) ![s.val] S1.size (inbQ s))).squeeze S_ squeezes_S1_S_).sem)) hsc)}
    (h : St V c b nW (s.val + 1) nR R ⊢ WP (k ⟨⟩) Q) :
    St V c b nW s.val nR R
      ⊢ WP (.op (.enqueueDma (sndM (par (rd s)))
          (.remote (Dev.tc d : Thread nD τ) (rcvM s : Memref sig (Dev.tc d : Thread nD τ).2.kind .vmem S128x256 .bf16)
            (.dma (((cc0_scratch2.slice (Rect.unit (s := S21) ![s.val] S1.size (inbQ s))).squeeze S_ squeezes_S1_S_).sem)) hsc)
          (.dma (((cc0_scratch3.slice (Rect.unit (s := S21) ![s.val] S1.size (inbQ s))).squeeze S_ squeezes_S1_S_).sem))
          hsrc hdst hsem) k) Q := by
  subst hd
  revert hsem
  rw [sendSem_eq, recvSem_eq]
  intro hsem
  unfold St
  iintro ⟨#HC, Hz, ⟨%W, HO⟩, Hfree, Hsend, Hrecv, HR⟩
  ihave Hs := (bigSep_focus_at (F := F) s (Φ := fun i => sendAt V c i (status b nW s.val i))
    (Φ' := fun i => sendAt V c i (status b nW (s.val + 1) i)) (fun i hi => by
      have : i.val ≠ s.val := fun e => hi (Fin.ext e)
      have e : status b nW s.val i = status b nW (s.val + 1) i := by
        unfold status
        by_cases h3 : i.val < s.val
        · rw [if_pos h3, if_pos (show i.val < s.val + 1 by omega)]
        · rw [if_neg h3, if_neg (show ¬ i.val < s.val + 1 by omega)]
      show sendAt V c i _ = sendAt V c i _
      rw [e])) $$ Hsend
  icases Hs with ⟨Hs, Hback⟩
  ihave Hs := (Entails.of_eq (show sendAt V c s (status b nW s.val s)
    = iprop((kit c s ∗ atPos ER (sendCell c s) 0 ∅ 0) ∗ piece V c s) from by rw [hs]; rfl)) $$ Hs
  icases Hs with ⟨⟨Hkit, Hat⟩, Hp⟩
  unfold kit vacant piece ownsTc owns
  icases Hkit with ⟨Ht1, Ht2, ⟨%Y, %fd, -, Hd⟩⟩
  icases Hp with ⟨%fs, %hfs, Hs⟩
  ihave #Hc1 := (ctx_send V c s) $$ HC
  ihave #Hc2 := (ctx_recv V (xr (tm s) c) s) $$ HC
  unfold cellOk
  icases Hc1 with ⟨⟨%κ₁, #HI1⟩, #Hr1⟩
  icases Hc2 with ⟨⟨%κ₂, #HI2⟩, #Hr2⟩
  iapply (Rounds.wp_send_pointsTo 𝒱₀ ER (sched V) (c : Thread nD τ) none (c' := (xr (tm s) c : Thread nD τ))
      (src := sndM (par (rd s))) (dst := rcvM s) (sS := .dma (sendSem s)) (sem := .dma (recvSem s))
      (κ₁ := κ₁) (κ₂ := κ₂) (r₁ := 0) (r₂ := 0) (d₁ := 0) (d₂ := 0) (q := qsh s) (fs := fs) (fd := fd)
      (by rw [duties_send]; exact Finset.mem_singleton_self _) (by rw [duties_recv]; exact Finset.mem_singleton_self _)
      () () N rfl (amount_dma V c 0 _) (amount_dma V (xr (tm s) c) 0 _) (recvOwed c (s.val + 1)) (recvOwed_step c s)
      (by rw [payload_send]; unfold piece ownsTc owns; iintro H; iexists fs; isplitr; · (ipureintro; exact hfs)
          iexact H)
      (by rw [payload_recv]; exact arrives V s _ rfl _ hfs fd))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply h
  unfold St
  isplitr; · iexact HC
  isplitl [Hz]; · iexact Hz
  isplitl [HO]; · iexists W; iexact HO
  isplitl [Hfree]; · iexact Hfree
  isplitl [Hback Hat Hcr]
  · iapply Hback
    iapply (Entails.of_eq (show iprop(atPos ER (sendCell c s) 0 ∅ 0 ∗ cred (tallyAt (sendCell c s) () N))
      = sendAt V c s (status b nW (s.val + 1) s) from by rw [hs']; rfl))
    isplitl [Hat] <;> iassumption
  isplitl [Hrecv]; · iexact Hrecv
  iexact HR

/-- The wait for transfer `s` to be read out. -/
theorem step_waitSend (s : Fin 21) {b nS nR : ℕ} (hs : status b s.val nS s = 2) (hs' : status b (s.val + 1) nS s = 3)
    {sp sp' : Space} {sh sh' : Shape} {e e' : EltTy} {κ' : Kind}
    {src : Memref sig .tc sp' sh' e'} {dst : Memref sig κ' sp sh e} {hsrc : src.view.WordExact} {hdst : dst.view.WordExact}
    (hN : dst.view.dmaCredit = N)
    (h : St V c b (s.val + 1) nS nR R ⊢ WP (k ⟨⟩) Q) :
    St V c b s.val nS nR R
      ⊢ WP (.op (.waitDma2 (((cc0_scratch2.slice (Rect.unit (s := S21) ![s.val] S1.size (inbQ s))).squeeze S_ squeezes_S1_S_).sem)
          src dst hsrc hdst) k) Q := by
  rw [sendSem_eq]
  unfold St
  iintro ⟨#HC, Hz, ⟨%W, HO⟩, Hfree, Hsend, Hrecv, HR⟩
  ihave Hs := (bigSep_focus_at (F := F) s (Φ := fun i => sendAt V c i (status b s.val nS i))
    (Φ' := fun i => sendAt V c i (status b (s.val + 1) nS i)) (fun i hi => by
      have : i.val ≠ s.val := fun e => hi (Fin.ext e)
      have e : status b s.val nS i = status b (s.val + 1) nS i := by
        unfold status
        by_cases h3 : i.val < s.val
        · rw [if_pos h3, if_pos (show i.val < s.val + 1 by omega)]
        · rw [if_neg h3, if_neg (show ¬ i.val < s.val + 1 by omega)]
      show sendAt V c i _ = sendAt V c i _
      rw [e])) $$ Hsend
  icases Hs with ⟨Hs, Hback⟩
  ihave Hs := (Entails.of_eq (show sendAt V c s (status b s.val nS s)
    = iprop(atPos ER (sendCell c s) 0 ∅ 0 ∗ cred (tallyAt (sendCell c s) () N)) from by rw [hs]; rfl)) $$ Hs
  icases Hs with ⟨Hat, Hcr⟩
  ihave #Hc1 := (ctx_send V c s) $$ HC
  unfold cellOk
  icases Hc1 with ⟨⟨%κ, #HI⟩, #Hr⟩
  iapply (Rounds.wp_wait_rest_token 𝒱₀ ER (sched V) (c : Thread nD τ) none (κ := κ)
      (wpE_waitDma2_eq 𝒱₀ (c : Thread nD τ) none Set.univ) (Set.mem_univ _) () (O := recvOwed c nS) (W := W) (R := 0) (m := 0) (T := ∅)
      (by rw [Nat.zero_add, expect_send, hN])) $$ [Hcr HO Hat]
  · isplitr; · iexact HI
    isplitl [Hcr]; · rw [hN]; iexact Hcr
    isplitl [HO]; · iexact HO
    isplitr; · iapply (ctx_wait_send V c s nS); iexact HC
    iexact Hat
  iintro ⟨HO, Hat, -, Hpay⟩
  imod (Rounds.cell_close ER (sched V) (Set.mem_univ κ) (fun h => h) (R := 0 + 1) (duties_later V (sendCell c s))) $$ [Hat] with Hv
  · isplitr; · iexact HI
    iexact Hat
  ihave Hp := (Entails.of_eq (rest_send V c s)) $$ Hpay
  iapply h
  unfold St
  isplitr; · iexact HC
  isplitl [Hz]; · iexact Hz
  isplitl [HO]; · iexists _; iexact HO
  isplitl [Hfree]; · iexact Hfree
  isplitl [Hback Hv Hp]
  · iapply Hback
    iapply (Entails.of_eq (show iprop(semVal (sendCell c s) 0 ∗ piece V c s)
      = sendAt V c s (status b (s.val + 1) nS s) from by rw [hs']; rfl))
    isplitl [Hv] <;> iassumption
  isplitl [Hrecv]; · iexact Hrecv
  iexact HR

/-- The wait for the partner's transfer `s`, once transfers up to `s` are sent. -/
theorem step_waitRecv (s : Fin 21) {b nW nS : ℕ} (hs : s.val < nS)
    {sp sp' : Space} {sh sh' : Shape} {e e' : EltTy} {κ' : Kind}
    {src : Memref sig .tc sp' sh' e'} {dst : Memref sig κ' sp sh e} {hsrc : src.view.WordExact} {hdst : dst.view.WordExact}
    (hN : dst.view.dmaCredit = N)
    (h : St V c b nW nS (s.val + 1) R ⊢ WP (k ⟨⟩) Q) :
    St V c b nW nS s.val R
      ⊢ WP (.op (.waitDma2 (((cc0_scratch3.slice (Rect.unit (s := S21) ![s.val] S1.size (inbQ s))).squeeze S_ squeezes_S1_S_).sem)
          src dst hsrc hdst) k) Q := by
  rw [recvSem_eq]
  unfold St
  iintro ⟨#HC, Hz, ⟨%W, HO⟩, Hfree, Hsend, Hrecv, HR⟩
  ihave Hs := (bigSep_focus_at (F := F) s (Φ := recvAt V c s.val) (Φ' := recvAt V c (s.val + 1)) (fun i hi => by
      have : i.val ≠ s.val := fun e => hi (Fin.ext e)
      unfold recvAt
      by_cases h3 : i.val < s.val
      · rw [if_pos h3, if_pos (show i.val < s.val + 1 by omega)]
      · rw [if_neg h3, if_neg (show ¬ i.val < s.val + 1 by omega)])) $$ Hrecv
  icases Hs with ⟨Hs, Hback⟩
  ihave Hs := (Entails.of_eq (show recvAt V c s.val s
    = iprop(atPos ER (recvCell c s) 0 ∅ 0 ∗ cred (tallyAt (recvCell c s) () N)) from if_neg (Nat.lt_irrefl _))) $$ Hs
  icases Hs with ⟨Hat, Hcr⟩
  ihave #Hc1 := (ctx_recv V c s) $$ HC
  unfold cellOk
  icases Hc1 with ⟨⟨%κ, #HI⟩, #Hr⟩
  iapply (Rounds.wp_wait_rest_token 𝒱₀ ER (sched V) (c : Thread nD τ) none (κ := κ)
      (wpE_waitDma2_eq 𝒱₀ (c : Thread nD τ) none Set.univ) (Set.mem_univ _) () (O := recvOwed c nS) (W := W) (R := 0) (m := 0) (T := ∅)
      (by rw [Nat.zero_add, expect_recv, hN])) $$ [Hcr HO Hat]
  · isplitr; · iexact HI
    isplitl [Hcr]; · rw [hN]; iexact Hcr
    isplitl [HO]; · iexact HO
    isplitr; · iapply (ctx_wait_recv V c s nS hs); iexact HC
    iexact Hat
  iintro ⟨HO, Hat, -, Hpay⟩
  imod (Rounds.cell_close ER (sched V) (Set.mem_univ κ) (fun h => h) (R := 0 + 1) (duties_later V (recvCell c s))) $$ [Hat] with Hv
  · isplitr; · iexact HI
    iexact Hat
  ihave Hp := (Entails.of_eq (rest_recv V c s)) $$ Hpay
  iapply h
  unfold St
  isplitr; · iexact HC
  isplitl [Hz]; · iexact Hz
  isplitl [HO]; · iexists _; iexact HO
  isplitl [Hfree]; · iexact Hfree
  isplitl [Hsend]; · iexact Hsend
  isplitl [Hback Hv Hp]
  · iapply Hback
    iapply (Entails.of_eq (show iprop(semVal (recvCell c s) 0 ∗ filled V c s) = recvAt V c (s.val + 1) s from
      (if_pos (Nat.lt_succ_self _)).symm))
    isplitl [Hv] <;> iassumption
  iexact HR

/-! ### Loads, and the store of the result -/

/-- A block as the body loads it from a slot, with its unit axis. -/
def up (X : FVec F S128x256 .bf16) : FVec F S1x128x256 .bf16 := shapeCast S1x128x256 X shapeCasts_S128x256_S1x128x256

omit [FloatOps F] in
theorem down_up (X : FVec F S128x256 .bf16) : shapeCast S128x256 (up X) shapeCasts_S1x128x256_S128x256 = X :=
  shapeCast_shapeCast X _ _

theorem rcvM_set (s : Fin 21) : (rcvM s).view.set = (rcvB.access (rcvR s)).set := Memref.set_view_squeeze _ _

omit [FloatOps F] in
/-- What a load of a slot reads. -/
theorem read_slot (s : Fin 21) (f : rcvB.view.ty.Contents (Elt F)) (X : FVec F S128x256 .bf16)
    (h : (rcvM s).view.read (Elt F) f = X) : (rcvB.access (rcvR s)).read (Elt F) f = up X := by
  rw [Memref.read_squeeze_slice rcvB (rcvR s) (fun _ => rfl) squeezes_S1x128x256_S128x256 shapeCasts_S1x128x256_S128x256] at h
  rw [← h]
  exact (shapeCast_shapeCast (s := S1x128x256) (t := S128x256) ((rcvB.access (rcvR s)).read (Elt F) f) _ _).symm

/-- Slot `s` is read once it has arrived. -/
theorem step_read (s : Fin 21) {b nW nS nR : ℕ} (hs : s.val < nR) {hl : rcvB.view.LoadsAt (rcvR s).toLoadRect}
    {k : ((rcvR s).shape.Idx → Elt F .bf16) → Prog (TpuEff nD τ sig (Elt F) Λ₀ .tc) α}
    (h : St V c b nW nS nR R ⊢ WP (k (up (V (rd s) (xr (tm s) c)))) Q) :
    St V c b nW nS nR R ⊢ WP (.op (.load rcvB (rcvR s).toLoadRect hl) k) Q := by
  unfold St
  iintro ⟨#HC, Hz, HO, Hfree, Hsend, Hrecv, HR⟩
  ihave Hs := (bigSep_focus_at (F := F) s (Φ := recvAt V c nR) (Φ' := recvAt V c nR) (fun i _ => rfl)) $$ Hrecv
  icases Hs with ⟨Hs, Hback⟩
  ihave Hs := (Entails.of_eq (show recvAt V c nR s = iprop(semVal (recvCell c s) 0 ∗ filled V c s) from if_pos hs)) $$ Hs
  icases Hs with ⟨Hv, Hp⟩
  unfold filled ownsTc owns
  icases Hp with ⟨%f, %hf, Hf⟩
  iapply (wp_load_rect 𝒱₀ (c : Thread nD τ) none Set.univ (m := rcvB) (r := rcvR s) (S := (rcvM s).view.set)
    (by rw [rcvM_set])) $$ Hf
  iintro Hf
  rw [read_slot s f _ hf]
  iapply h
  unfold St
  isplitr; · iexact HC
  isplitl [Hz]; · iexact Hz
  isplitl [HO]; · iexact HO
  isplitl [Hfree]; · iexact Hfree
  isplitl [Hsend]; · iexact Hsend
  isplitl [Hback Hv Hf]
  · iapply Hback
    iapply (Entails.of_eq (show iprop(semVal (recvCell c s) 0 ∗ filled V c s) = recvAt V c nR s from (if_pos hs).symm))
    isplitl [Hv]; · iexact Hv
    unfold filled ownsTc owns
    iexists f
    isplitr; · ipureintro; exact hf
    iexact Hf
  iexact HR

/-- A buffer of device `c`, whole, at given contents. -/
abbrev buf (c : Dev nD) {s : Shape} {e : EltTy} (M : Memref sig .tc .vmem s e) (X : M.view.ty.Contents (Elt F)) : sProp 𝕄 :=
  M.view.loc (c : Thread nD τ) ↦{fullShare} X

/-- A buffer is loaded. -/
theorem wp_load_buf {s : Shape} {e : EltTy} {M : Memref sig .tc .vmem s e} {X : M.view.ty.Contents (Elt F)} {r : LoadRect s}
    {x : r.shape.Idx → Elt F e} (hr : M.view.readAt (Elt F) r X = x) {hl : M.view.LoadsAt r}
    {k : (r.shape.Idx → Elt F e) → Prog (TpuEff nD τ sig (Elt F) Λ₀ .tc) α} :
    buf c M X ⊢ iprop((buf c M X -∗ WP (k x) Q) -∗ WP (.op (.load M r hl) k) Q) := by
  subst hr
  iintro H Hk
  iapply (wp_load 𝒱₀ (c : Thread nD τ) none Set.univ (m := M) (Finset.subset_univ _)) $$ H
  iexact Hk

/-- A buffer is stored. -/
theorem wp_store_buf {s : Shape} {e : EltTy} {M : Memref sig .tc .vmem s e} {X Y : M.view.ty.Contents (Elt F)} {r : Rect s}
    {w : r.shape.Idx → Elt F e} (hY : (M.access r).write (Elt F) X w Finset.univ = Y) {hx : (M.access r).Stores Finset.univ}
    {hm : (Finset.univ : Finset r.shape.Idx) = Finset.univ ∨ ∀ a, r.stride a = 1} :
    buf c M X ⊢ iprop((buf c M Y -∗ WP (k ⟨⟩) Q) -∗ WP (.op (.store M r w Finset.univ hx hm) k) Q) := by
  subst hY
  iintro H Hk
  iapply (wp_store 𝒱₀ (c : Thread nD τ) none Set.univ (m := M) (r := r) (Mk := Finset.univ) (Finset.subset_univ _)) $$ H
  iexact Hk

/-- The rest of the state is carried over one operation. -/
theorem step_frame {b nW nS nR : ℕ} {T T' : sProp (MT nD τ sig Unit (Elt F) ℕ UU ℕ)} {p p' : Prog (TpuEff nD τ sig (Elt F) Λ₀ .tc) α}
    (hR : R ⊢ iprop(T ∗ (T' -∗ R'))) (hT : T ⊢ iprop((T' -∗ WP p' Q) -∗ WP p Q))
    (h : St V c b nW nS nR R' ⊢ WP p' Q) : St V c b nW nS nR R ⊢ WP p Q := by
  unfold St
  iintro ⟨#HC, Hz, HO, Hfree, Hsend, Hrecv, HR⟩
  ihave HR := hR $$ HR
  icases HR with ⟨HT, Hback⟩
  iapply hT $$ HT
  iintro HT
  ihave HR := Hback $$ HT
  iapply h
  unfold St
  isplitr; · iexact HC
  isplitl [Hz]; · iexact Hz
  isplitl [HO]; · iexact HO
  isplitl [Hfree]; · iexact Hfree
  isplitl [Hsend]; · iexact Hsend
  isplitl [Hrecv]; · iexact Hrecv
  iexact HR

/-- The same before the barrier. -/
theorem pre_frame {n : ℕ} {T T' : sProp (MT nD τ sig Unit (Elt F) ℕ UU ℕ)} {p p' : Prog (TpuEff nD τ sig (Elt F) Λ₀ .tc) α}
    (hR : R ⊢ iprop(T ∗ (T' -∗ R'))) (hT : T ⊢ iprop((T' -∗ WP p' Q) -∗ WP p Q))
    (h : Pre V c n R' ⊢ WP p' Q) : Pre V c n R ⊢ WP p Q := by
  unfold Pre
  iintro ⟨#HC, Hz, HO, Hkit, Hfree, Hsend, Hrecv, HR⟩
  ihave HR := hR $$ HR
  icases HR with ⟨HT, Hback⟩
  iapply hT $$ HT
  iintro HT
  ihave HR := Hback $$ HT
  iapply h
  unfold Pre
  isplitr; · iexact HC
  isplitl [Hz]; · iexact Hz
  isplitl [HO]; · iexact HO
  isplitl [Hkit]; · iexact Hkit
  isplitl [Hfree]; · iexact Hfree
  isplitl [Hsend]; · iexact Hsend
  isplitl [Hrecv]; · iexact Hrecv
  iexact HR

end Steps

end Cert.AllReduce

end
-- ==== Proof.Parts.lean ====
module

public import proofs.«01_k».proof.Proof.Moves
public import proofs.«01_k».proof.Proof.Gen.KernelIdeal.Skeleton

@[expose] public section

set_option Elab.async false

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 9 → Dev nD → FVec F S128x256 .bf16)

abbrev bX : Memref sig .tc .vmem S128x128 .bf16 := Memref.whole cc0_stg0_0
abbrev bIn0 : Memref sig .tc .vmem S128x256 .bf16 := Memref.whole cc0_stg1_0
abbrev bOut0 : Memref sig .tc .vmem S256x128 .bf16 := Memref.whole cc0_stg2_0
abbrev bIn1 : Memref sig .tc .vmem S128x256 .bf16 := Memref.whole cc0_stg3_0
abbrev bOut1 : Memref sig .tc .vmem S256x128 .bf16 := Memref.whole cc0_stg4_0
abbrev bIn2 : Memref sig .tc .vmem S128x256 .bf16 := Memref.whole cc0_stg5_0
abbrev bOut2 : Memref sig .tc .vmem S256x128 .bf16 := Memref.whole cc0_stg6_0
abbrev bRes : Memref sig .tc .vmem S128x128 .f32 := Memref.whole cc0_stg7_0

/-- The operands a device starts with. -/
structure Operands (F : FTy → Type) where
  x : FVec F S128x128 .bf16
  in0 : FVec F S128x256 .bf16
  out0 : FVec F S256x128 .bf16
  in1 : FVec F S128x256 .bf16
  out1 : FVec F S256x128 .bf16
  in2 : FVec F S128x256 .bf16
  out2 : FVec F S256x128 .bf16

/-- The operand buffers of device `c`. -/
def held (c : Dev nD) (D : Operands F) : Fin 7 → sProp 𝕄 :=
  ![buf c bX D.x, buf c bIn0 D.in0, buf c bOut0 D.out0, buf c bIn1 D.in1, buf c bOut1 D.out1, buf c bIn2 D.in2,
    buf c bOut2 D.out2]

/-- All of them, and its result buffer. -/
def Held (c : Dev nD) (D : Operands F) (o : FVec F S128x128 .f32) : sProp 𝕄 :=
  iprop(bigSep Finset.univ (held c D) ∗ buf c bRes o)

omit [FloatOps F] in
/-- An operand buffer is taken out for a load. -/
theorem held_take {c : Dev nD} {D : Operands F} {o : FVec F S128x128 .f32} (w : Fin 7) :
    Held c D o ⊢ iprop(held c D w ∗ (held c D w -∗ Held c D o)) := by
  unfold Held
  iintro ⟨H, Hr⟩
  ihave H' := (bigSep_focus_at (F := F) w (Φ := held c D) (Φ' := held c D) fun _ _ => rfl) $$ H
  icases H' with ⟨Hw, Hback⟩
  isplitl [Hw]
  · iexact Hw
  iintro Hw
  isplitr [Hr]
  · iapply Hback $$ Hw
  · iexact Hr
omit [FloatOps F] in
/-- The result buffer is taken out for a load. -/
theorem held_take_res {c : Dev nD} {D : Operands F} {o : FVec F S128x128 .f32} :
    Held c D o ⊢ iprop(buf c bRes o ∗ (buf c bRes o -∗ Held c D o)) := by
  unfold Held
  iintro ⟨H, Hr⟩
  isplitl [Hr]
  · iexact Hr
  iintro Hr
  isplitl [H]
  · iexact H
  · iexact Hr
omit [FloatOps F] in
/-- The result buffer is taken out for a store. -/
theorem held_put {c : Dev nD} {D : Operands F} {o o' : FVec F S128x128 .f32} :
    Held c D o ⊢ iprop(buf c bRes o ∗ (buf c bRes o' -∗ Held c D o')) := by
  unfold Held
  iintro ⟨H, Hr⟩
  isplitl [Hr]
  · iexact Hr
  iintro Hr
  isplitl [H]
  · iexact H
  · iexact Hr

theorem hz : (![0, 0] : Fin 2 → ℕ) = fun _ => 0 := by funext i; fin_cases i <;> rfl

section Parts

variable {α : Type} {Q : α → sProp (MT nD τ sig Unit (Elt F) ℕ UU ℕ)} {c : Dev nD}
  {R : sProp (MT nD τ sig Unit (Elt F) ℕ UU ℕ)} {D : Operands F} {o : FVec F S128x128 .f32}

local notation "WP" => wp frame (wpE (defs₀ (F := F)) 𝒱₀ (c : Thread nD τ) none) Set.univ

/-- Part 1: the device loads its operands of the first product and signals five partners. -/
theorem part1 {k : _ → Prog (TpuEff nD τ sig (Elt F) Λ₀ .tc) α}
    (h : ∀ a1 a4, Pre V c 5 (Held c D o) ⊢ WP (k ⟨c, a1, k0_pay1 D.x D.in0, SemArray.scalar (sig.barrier 0 rfl), a4⟩) Q) :
    Pre V c 0 (Held c D o) ⊢ WP (k0_part1 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 >>= k) Q := by
  rw [k0_part1_eq_skeleton]; unfold k0_part1_skel
  simp only [Prog.lift, Prog.bind_op, Prog.bind_ret, Prog.pure_eq_ret, semSignalWord, wp_deviceId]
  refine pre_frame V (held_take 0) (wp_load_buf (Memref.readAt_unit_zero (Elt F) cc0_stg0_0 hz _ _)) ?_
  refine pre_frame V (held_take 1) (wp_load_buf (Memref.readAt_unit_zero (Elt F) cc0_stg1_0 hz _ _)) ?_
  refine step_signal V 0 (signalDev_eq 0 c) ?_
  refine step_signal V 1 (signalDev_eq 1 c) ?_
  refine step_signal V 2 (signalDev_eq 2 c) ?_
  refine step_signal V 3 (signalDev_eq 3 c) ?_
  refine step_signal V 4 (signalDev_eq 4 c) ?_
  exact h _ _

/-- Part 2: the device signals the other two partners, waits at the barrier, stores for round 0 and sends transfer 0. -/
theorem part2 {v2 : BitVec 32} {v7 : FVec F S128x256 .f32} {v24 : BitVec 32} {k : _ → Prog (TpuEff nD τ sig (Elt F) Λ₀ .tc) α}
    (hw : shapeCast S128x256 (k0_pay2 v7) shapeCasts_S1x128x256_S128x256 = V 0 c)
    (h : ∀ a0 a1, St V c 1 0 1 0 (Held c D o) ⊢ WP (k ⟨a0, a1⟩) Q) :
    Pre V c 5 (Held c D o) ⊢ WP (k0_part2 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v7 (SemArray.scalar (sig.barrier 0 rfl)) v24 >>= k) Q := by
  rw [k0_part2_eq_skeleton]; unfold k0_part2_skel
  simp only [Prog.lift, Prog.bind_op, Prog.bind_ret, Prog.pure_eq_ret, semSignalWord, semWaitWord]
  refine step_signal V 5 (signalDev_eq 5 c) ?_
  refine step_signal V 6 (signalDev_eq 6 c) ?_
  refine step_barrier V ?_
  refine step_store_first V 0 (by decide) hw 0 0 (by decide) (by decide) ?_
  refine step_send V 0 (sendDev_eq 0 c) (by decide) (by decide) ?_
  exact h _ _

/-- Part 3: the device sends transfer 1, sends transfer 2, loads an operand, loads an operand. -/
theorem part3 {v2 : BitVec 32} {v34 : BitVec 32} {k : _ → Prog (TpuEff nD τ sig (Elt F) Λ₀ .tc) α}
    (h : ∀ a0, St V c 1 0 3 0 (Held c D o) ⊢ WP (k ⟨a0, k0_pay3 D.out0 D.in1⟩) Q) :
    St V c 1 0 1 0 (Held c D o) ⊢ WP (k0_part3 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v34 >>= k) Q := by
  rw [k0_part3_eq_skeleton]; unfold k0_part3_skel
  simp only [Prog.lift, Prog.bind_op, Prog.bind_ret, Prog.pure_eq_ret]
  refine step_send V 1 (sendDev_eq 1 c) (by decide) (by decide) ?_
  refine step_send V 2 (sendDev_eq 2 c) (by decide) (by decide) ?_
  refine step_frame V (held_take 2) (wp_load_buf (Memref.readAt_unit_zero (Elt F) cc0_stg2_0 hz _ _)) ?_
  refine step_frame V (held_take 3) (wp_load_buf (Memref.readAt_unit_zero (Elt F) cc0_stg3_0 hz _ _)) ?_
  exact h _

/-- Part 4: the device awaits transfer 0, reads it, awaits transfer 1, reads it, awaits transfer 2, reads it. -/
theorem part4 {v7 : FVec F S128x256 .f32} {v45 : BitVec 32} {v56 : BitVec 32} {k : _ → Prog (TpuEff nD τ sig (Elt F) Λ₀ .tc) α}
    (h : St V c 1 0 3 3 (Held c D o) ⊢ WP (k ⟨k0_pay4 v7 (up (V 0 (xr 0 c))) (up (V 0 (xr 1 c))), k0_pay5 (up (V 0 (xr 2 c)))⟩) Q) :
    St V c 1 0 3 0 (Held c D o) ⊢ WP (k0_part4 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v7 v45 v56 >>= k) Q := by
  rw [k0_part4_eq_skeleton]; unfold k0_part4_skel
  simp only [Prog.lift, Prog.bind_op, Prog.bind_ret, Prog.pure_eq_ret]
  refine step_waitRecv V 0 (by decide) rfl ?_
  refine step_read V 0 (by decide) ?_
  refine step_waitRecv V 1 (by decide) rfl ?_
  refine step_read V 1 (by decide) ?_
  refine step_waitRecv V 2 (by decide) rfl ?_
  refine step_read V 2 (by decide) ?_
  exact h

/-- Part 5: the device stores for round 1, sends transfer 3, loads an operand, loads an operand. -/
theorem part5 {v2 : BitVec 32} {v96 : FVec F S128x256 .f32} {v106 : FVec F S128x256 .bf16} {k : _ → Prog (TpuEff nD τ sig (Elt F) Λ₀ .tc) α}
    (hw : shapeCast S128x256 (k0_pay7 v96 v106) shapeCasts_S1x128x256_S128x256 = V 1 c)
    (h : St V c 2 0 4 3 (Held c D o) ⊢ WP (k ⟨k0_pay6 v96 v106, k0_pay8 D.out1 D.in2⟩) Q) :
    St V c 1 0 3 3 (Held c D o) ⊢ WP (k0_part5 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v96 v106 >>= k) Q := by
  rw [k0_part5_eq_skeleton]; unfold k0_part5_skel
  simp only [Prog.lift, Prog.bind_op, Prog.bind_ret, Prog.pure_eq_ret]
  refine step_store_first V 1 (by decide) hw 0 3 (by decide) (by decide) ?_
  refine step_send V 3 (sendDev_eq 3 c) (by decide) (by decide) ?_
  refine step_frame V (held_take 4) (wp_load_buf (Memref.readAt_unit_zero (Elt F) cc0_stg4_0 hz _ _)) ?_
  refine step_frame V (held_take 5) (wp_load_buf (Memref.readAt_unit_zero (Elt F) cc0_stg5_0 hz _ _)) ?_
  exact h

/-- Part 6: the device awaits transfer 3, reads it, awaits send 0, awaits send 1, awaits send 2. -/
theorem part6 {v108 : FVec F S128x256 .f32} {k : _ → Prog (TpuEff nD τ sig (Elt F) Λ₀ .tc) α}
    (h : St V c 2 3 4 4 (Held c D o) ⊢ WP (k ⟨k0_pay9 v108 (up (V 1 (xr 3 c))), k0_pay10 v108 (up (V 1 (xr 3 c)))⟩) Q) :
    St V c 2 0 4 3 (Held c D o) ⊢ WP (k0_part6 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v108 >>= k) Q := by
  rw [k0_part6_eq_skeleton]; unfold k0_part6_skel
  simp only [Prog.lift, Prog.bind_op, Prog.bind_ret, Prog.pure_eq_ret]
  refine step_waitRecv V 3 (by decide) rfl ?_
  refine step_read V 3 (by decide) ?_
  refine step_waitSend V 0 (by decide) (by decide) rfl ?_
  refine step_waitSend V 1 (by decide) (by decide) rfl ?_
  refine step_waitSend V 2 (by decide) (by decide) rfl ?_
  exact h

/-- Part 7: the device stores for round 2, sends transfer 4, sends transfer 5. -/
theorem part7 {v2 : BitVec 32} {v160 : FVec F S128x256 .bf16} {k : _ → Prog (TpuEff nD τ sig (Elt F) Λ₀ .tc) α}
    (hw : shapeCast S128x256 (k0_pay11 v160) shapeCasts_S1x128x256_S128x256 = V 2 c)
    (h : ∀ a0 a1 a2 a3, St V c 3 3 6 4 (Held c D o) ⊢ WP (k ⟨a0, a1, a2, a3⟩) Q) :
    St V c 2 3 4 4 (Held c D o) ⊢ WP (k0_part7 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v160 >>= k) Q := by
  rw [k0_part7_eq_skeleton]; unfold k0_part7_skel
  simp only [Prog.lift, Prog.bind_op, Prog.bind_ret, Prog.pure_eq_ret]
  refine step_store V 0 2 (by decide) hw 3 4 (by decide) (by decide) (by decide) (by decide) ?_
  refine step_send V 4 (sendDev_eq 4 c) (by decide) (by decide) ?_
  refine step_send V 5 (sendDev_eq 5 c) (by decide) (by decide) ?_
  exact h _ _ _ _

/-- Part 8: the device sends transfer 6, loads an operand, awaits transfer 4, reads it. -/
theorem part8 {v141 : FVec F S128x256 .f32} {v164 : BitVec 32} {v175 : BitVec 32} {v187 : BitVec 32} {k : _ → Prog (TpuEff nD τ sig (Elt F) Λ₀ .tc) α}
    (h : St V c 3 3 7 5 (Held c D o) ⊢ WP (k ⟨k0_pay12 D.out2, k0_pay13 v141 (up (V 2 (xr 4 c)))⟩) Q) :
    St V c 3 3 6 4 (Held c D o) ⊢ WP (k0_part8 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v141 v164 v175 v187 >>= k) Q := by
  rw [k0_part8_eq_skeleton]; unfold k0_part8_skel
  simp only [Prog.lift, Prog.bind_op, Prog.bind_ret, Prog.pure_eq_ret]
  refine step_send V 6 (sendDev_eq 6 c) (by decide) (by decide) ?_
  refine step_frame V (held_take 6) (wp_load_buf (Memref.readAt_unit_zero (Elt F) cc0_stg6_0 hz _ _)) ?_
  refine step_waitRecv V 4 (by decide) rfl ?_
  refine step_read V 4 (by decide) ?_
  exact h

/-- Part 9: the device awaits transfer 5, reads it, awaits transfer 6, reads it, awaits send 3. -/
theorem part9 {v72 : FVec F S256x256 .bf16} {v186 : BitVec 32} {v210 : FVec F S128x256 .f32} {k : _ → Prog (TpuEff nD τ sig (Elt F) Λ₀ .tc) α}
    (h : St V c 3 4 7 7 (Held c D o) ⊢ WP (k ⟨k0_pay14 v72 v210 (up (V 2 (xr 5 c))) (up (V 2 (xr 6 c))), k0_pay15 v72 v210 (up (V 2 (xr 5 c))) (up (V 2 (xr 6 c)))⟩) Q) :
    St V c 3 3 7 5 (Held c D o) ⊢ WP (k0_part9 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v72 v186 v210 >>= k) Q := by
  rw [k0_part9_eq_skeleton]; unfold k0_part9_skel
  simp only [Prog.lift, Prog.bind_op, Prog.bind_ret, Prog.pure_eq_ret]
  refine step_waitRecv V 5 (by decide) rfl ?_
  refine step_read V 5 (by decide) ?_
  refine step_waitRecv V 6 (by decide) rfl ?_
  refine step_read V 6 (by decide) ?_
  refine step_waitSend V 3 (by decide) (by decide) rfl ?_
  exact h

/-- Part 10: the device stores for round 3, sends transfer 7, sends transfer 8. -/
theorem part10 {v2 : BitVec 32} {v245 : FVec F S128x256 .bf16} {k : _ → Prog (TpuEff nD τ sig (Elt F) Λ₀ .tc) α}
    (hw : shapeCast S128x256 (k0_pay16 v245) shapeCasts_S1x128x256_S128x256 = V 3 c)
    (h : ∀ a0 a1 a2 a3, St V c 4 4 9 7 (Held c D o) ⊢ WP (k ⟨a0, a1, a2, a3⟩) Q) :
    St V c 3 4 7 7 (Held c D o) ⊢ WP (k0_part10 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v245 >>= k) Q := by
  rw [k0_part10_eq_skeleton]; unfold k0_part10_skel
  simp only [Prog.lift, Prog.bind_op, Prog.bind_ret, Prog.pure_eq_ret]
  refine step_store V 1 3 (by decide) hw 4 7 (by decide) (by decide) (by decide) (by decide) ?_
  refine step_send V 7 (sendDev_eq 7 c) (by decide) (by decide) ?_
  refine step_send V 8 (sendDev_eq 8 c) (by decide) (by decide) ?_
  exact h _ _ _ _

/-- Part 11: the device sends transfer 9, awaits transfer 7, reads it. -/
theorem part11 {v238 : FVec F S128x256 .f32} {v249 : BitVec 32} {v260 : BitVec 32} {v271 : BitVec 32} {c1 : BitVec 32} {k : _ → Prog (TpuEff nD τ sig (Elt F) Λ₀ .tc) α}
    (h : St V c 4 4 10 8 (Held c D o) ⊢ WP (k (k0_pay17 v238 (up (V 3 (xr 0 c))))) Q) :
    St V c 4 4 9 7 (Held c D o) ⊢ WP (k0_part11 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v238 v249 v260 v271 c1 >>= k) Q := by
  rw [k0_part11_eq_skeleton]; unfold k0_part11_skel
  simp only [Prog.lift, Prog.bind_op, Prog.bind_ret, Prog.pure_eq_ret]
  refine step_send V 9 (sendDev_eq 9 c) (by decide) (by decide) ?_
  refine step_waitRecv V 7 (by decide) rfl ?_
  refine step_read V 7 (by decide) ?_
  exact h

/-- Part 12: the device awaits transfer 8, reads it, awaits transfer 9, reads it, awaits send 4. -/
theorem part12 {v271 : BitVec 32} {v293 : FVec F S128x256 .f32} {k : _ → Prog (TpuEff nD τ sig (Elt F) Λ₀ .tc) α}
    (h : St V c 4 5 10 10 (Held c D o) ⊢ WP (k (k0_pay18 v293 (up (V 3 (xr 1 c))) (up (V 3 (xr 2 c))))) Q) :
    St V c 4 4 10 8 (Held c D o) ⊢ WP (k0_part12 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v271 v293 >>= k) Q := by
  rw [k0_part12_eq_skeleton]; unfold k0_part12_skel
  simp only [Prog.lift, Prog.bind_op, Prog.bind_ret, Prog.pure_eq_ret]
  refine step_waitRecv V 8 (by decide) rfl ?_
  refine step_read V 8 (by decide) ?_
  refine step_waitRecv V 9 (by decide) rfl ?_
  refine step_read V 9 (by decide) ?_
  refine step_waitSend V 4 (by decide) (by decide) rfl ?_
  exact h

/-- Part 13: the device awaits send 5, awaits send 6, stores for round 4, sends transfer 10. -/
theorem part13 {v2 : BitVec 32} {v317 : FVec F S128x256 .f32} {k : _ → Prog (TpuEff nD τ sig (Elt F) Λ₀ .tc) α}
    (hw : shapeCast S128x256 (k0_pay19 v317) shapeCasts_S1x128x256_S128x256 = V 4 c)
    (h : ∀ a0 a1, St V c 5 7 11 10 (Held c D o) ⊢ WP (k ⟨a0, a1⟩) Q) :
    St V c 4 5 10 10 (Held c D o) ⊢ WP (k0_part13 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v317 >>= k) Q := by
  rw [k0_part13_eq_skeleton]; unfold k0_part13_skel
  simp only [Prog.lift, Prog.bind_op, Prog.bind_ret, Prog.pure_eq_ret]
  refine step_waitSend V 5 (by decide) (by decide) rfl ?_
  refine step_waitSend V 6 (by decide) (by decide) rfl ?_
  refine step_store V 2 4 (by decide) hw 7 10 (by decide) (by decide) (by decide) (by decide) ?_
  refine step_send V 10 (sendDev_eq 10 c) (by decide) (by decide) ?_
  exact h _ _

/-- Part 14: the device awaits transfer 10, reads it, awaits send 7, awaits send 8. -/
theorem part14 {v317 : FVec F S128x256 .f32} {v351 : BitVec 32} {c0 : BitVec 32} {k : _ → Prog (TpuEff nD τ sig (Elt F) Λ₀ .tc) α}
    (h : St V c 5 9 11 11 (Held c D o) ⊢ WP (k (k0_pay20 v317 (up (V 4 (xr 3 c))))) Q) :
    St V c 5 7 11 10 (Held c D o) ⊢ WP (k0_part14 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v317 v351 c0 >>= k) Q := by
  rw [k0_part14_eq_skeleton]; unfold k0_part14_skel
  simp only [Prog.lift, Prog.bind_op, Prog.bind_ret, Prog.pure_eq_ret]
  refine step_waitRecv V 10 (by decide) rfl ?_
  refine step_read V 10 (by decide) ?_
  refine step_waitSend V 7 (by decide) (by decide) rfl ?_
  refine step_waitSend V 8 (by decide) (by decide) rfl ?_
  exact h

/-- Part 15: the device awaits send 9, stores for round 5, sends transfer 11. -/
theorem part15 {v2 : BitVec 32} {v362 : FVec F S128x256 .f32} {k : _ → Prog (TpuEff nD τ sig (Elt F) Λ₀ .tc) α}
    (hw : shapeCast S128x256 (k0_pay21 v362) shapeCasts_S1x128x256_S128x256 = V 5 c)
    (h : ∀ a0 a1, St V c 6 10 12 11 (Held c D o) ⊢ WP (k ⟨a0, a1⟩) Q) :
    St V c 5 9 11 11 (Held c D o) ⊢ WP (k0_part15 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v362 >>= k) Q := by
  rw [k0_part15_eq_skeleton]; unfold k0_part15_skel
  simp only [Prog.lift, Prog.bind_op, Prog.bind_ret, Prog.pure_eq_ret]
  refine step_waitSend V 9 (by decide) (by decide) rfl ?_
  refine step_store V 3 5 (by decide) hw 10 11 (by decide) (by decide) (by decide) (by decide) ?_
  refine step_send V 11 (sendDev_eq 11 c) (by decide) (by decide) ?_
  exact h _ _

/-- Part 16: the device sends transfer 12, sends transfer 13, awaits transfer 11, reads it. -/
theorem part16 {v2 : BitVec 32} {v362 : FVec F S128x256 .f32} {v385 : BitVec 32} {v396 : BitVec 32} {k : _ → Prog (TpuEff nD τ sig (Elt F) Λ₀ .tc) α}
    (h : ∀ a0, St V c 6 10 14 12 (Held c D o) ⊢ WP (k ⟨a0, k0_pay22 v362 (up (V 5 (xr 4 c)))⟩) Q) :
    St V c 6 10 12 11 (Held c D o) ⊢ WP (k0_part16 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v362 v385 v396 >>= k) Q := by
  rw [k0_part16_eq_skeleton]; unfold k0_part16_skel
  simp only [Prog.lift, Prog.bind_op, Prog.bind_ret, Prog.pure_eq_ret]
  refine step_send V 12 (sendDev_eq 12 c) (by decide) (by decide) ?_
  refine step_send V 13 (sendDev_eq 13 c) (by decide) (by decide) ?_
  refine step_waitRecv V 11 (by decide) rfl ?_
  refine step_read V 11 (by decide) ?_
  exact h _

/-- Part 17: the device awaits transfer 12, reads it, awaits transfer 13, reads it. -/
theorem part17 {v129 : FVec F S256x256 .bf16} {v407 : BitVec 32} {v429 : FVec F S128x256 .f32} {k : _ → Prog (TpuEff nD τ sig (Elt F) Λ₀ .tc) α}
    (h : St V c 6 10 14 14 (Held c D o) ⊢ WP (k (k0_pay23 v129 v429 (up (V 5 (xr 5 c))) (up (V 5 (xr 6 c))))) Q) :
    St V c 6 10 14 12 (Held c D o) ⊢ WP (k0_part17 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v129 v407 v429 >>= k) Q := by
  rw [k0_part17_eq_skeleton]; unfold k0_part17_skel
  simp only [Prog.lift, Prog.bind_op, Prog.bind_ret, Prog.pure_eq_ret]
  refine step_waitRecv V 12 (by decide) rfl ?_
  refine step_read V 12 (by decide) ?_
  refine step_waitRecv V 13 (by decide) rfl ?_
  refine step_read V 13 (by decide) ?_
  exact h

/-- Part 18: the device awaits send 10, stores for round 6, sends transfer 14, sends transfer 15. -/
theorem part18 {v2 : BitVec 32} {v457 : FVec F S128x256 .f32} {k : _ → Prog (TpuEff nD τ sig (Elt F) Λ₀ .tc) α}
    (hw : shapeCast S128x256 (k0_pay24 v457) shapeCasts_S1x128x256_S128x256 = V 6 c)
    (h : ∀ a0 a1 a2, St V c 7 11 16 14 (Held c D o) ⊢ WP (k ⟨a0, a1, a2⟩) Q) :
    St V c 6 10 14 14 (Held c D o) ⊢ WP (k0_part18 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v457 >>= k) Q := by
  rw [k0_part18_eq_skeleton]; unfold k0_part18_skel
  simp only [Prog.lift, Prog.bind_op, Prog.bind_ret, Prog.pure_eq_ret]
  refine step_waitSend V 10 (by decide) (by decide) rfl ?_
  refine step_store V 4 6 (by decide) hw 11 14 (by decide) (by decide) (by decide) (by decide) ?_
  refine step_send V 14 (sendDev_eq 14 c) (by decide) (by decide) ?_
  refine step_send V 15 (sendDev_eq 15 c) (by decide) (by decide) ?_
  exact h _ _ _

/-- Part 19: the device sends transfer 16, awaits transfer 14, reads it. -/
theorem part19 {v457 : FVec F S128x256 .f32} {v468 : BitVec 32} {v479 : BitVec 32} {v490 : BitVec 32} {k : _ → Prog (TpuEff nD τ sig (Elt F) Λ₀ .tc) α}
    (h : St V c 7 11 17 15 (Held c D o) ⊢ WP (k (k0_pay25 v457 (up (V 6 (xr 0 c))))) Q) :
    St V c 7 11 16 14 (Held c D o) ⊢ WP (k0_part19 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v457 v468 v479 v490 >>= k) Q := by
  rw [k0_part19_eq_skeleton]; unfold k0_part19_skel
  simp only [Prog.lift, Prog.bind_op, Prog.bind_ret, Prog.pure_eq_ret]
  refine step_send V 16 (sendDev_eq 16 c) (by decide) (by decide) ?_
  refine step_waitRecv V 14 (by decide) rfl ?_
  refine step_read V 14 (by decide) ?_
  exact h

/-- Part 20: the device awaits transfer 15, reads it, awaits transfer 16, reads it, awaits send 11. -/
theorem part20 {v490 : BitVec 32} {v512 : FVec F S128x256 .f32} {k : _ → Prog (TpuEff nD τ sig (Elt F) Λ₀ .tc) α}
    (h : St V c 7 12 17 17 (Held c D o) ⊢ WP (k (k0_pay26 v512 (up (V 6 (xr 1 c))) (up (V 6 (xr 2 c))))) Q) :
    St V c 7 11 17 15 (Held c D o) ⊢ WP (k0_part20 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v490 v512 >>= k) Q := by
  rw [k0_part20_eq_skeleton]; unfold k0_part20_skel
  simp only [Prog.lift, Prog.bind_op, Prog.bind_ret, Prog.pure_eq_ret]
  refine step_waitRecv V 15 (by decide) rfl ?_
  refine step_read V 15 (by decide) ?_
  refine step_waitRecv V 16 (by decide) rfl ?_
  refine step_read V 16 (by decide) ?_
  refine step_waitSend V 11 (by decide) (by decide) rfl ?_
  exact h

/-- Part 21: the device awaits send 12, awaits send 13, stores for round 7, sends transfer 17. -/
theorem part21 {v2 : BitVec 32} {v536 : FVec F S128x256 .f32} {k : _ → Prog (TpuEff nD τ sig (Elt F) Λ₀ .tc) α}
    (hw : shapeCast S128x256 (k0_pay27 v536) shapeCasts_S1x128x256_S128x256 = V 7 c)
    (h : ∀ a0, St V c 8 14 18 17 (Held c D o) ⊢ WP (k (a0)) Q) :
    St V c 7 12 17 17 (Held c D o) ⊢ WP (k0_part21 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v536 >>= k) Q := by
  rw [k0_part21_eq_skeleton]; unfold k0_part21_skel
  simp only [Prog.lift, Prog.bind_op, Prog.bind_ret, Prog.pure_eq_ret]
  refine step_waitSend V 12 (by decide) (by decide) rfl ?_
  refine step_waitSend V 13 (by decide) (by decide) rfl ?_
  refine step_store V 5 7 (by decide) hw 14 17 (by decide) (by decide) (by decide) (by decide) ?_
  refine step_send V 17 (sendDev_eq 17 c) (by decide) (by decide) ?_
  exact h _

/-- Part 22: the device awaits transfer 17, reads it, awaits send 14, awaits send 15. -/
theorem part22 {v536 : FVec F S128x256 .f32} {v559 : BitVec 32} {k : _ → Prog (TpuEff nD τ sig (Elt F) Λ₀ .tc) α}
    (h : St V c 8 16 18 18 (Held c D o) ⊢ WP (k (k0_pay28 v536 (up (V 7 (xr 3 c))))) Q) :
    St V c 8 14 18 17 (Held c D o) ⊢ WP (k0_part22 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v536 v559 >>= k) Q := by
  rw [k0_part22_eq_skeleton]; unfold k0_part22_skel
  simp only [Prog.lift, Prog.bind_op, Prog.bind_ret, Prog.pure_eq_ret]
  refine step_waitRecv V 17 (by decide) rfl ?_
  refine step_read V 17 (by decide) ?_
  refine step_waitSend V 14 (by decide) (by decide) rfl ?_
  refine step_waitSend V 15 (by decide) (by decide) rfl ?_
  exact h

/-- Part 23: the device awaits send 16, stores for round 8, sends transfer 18. -/
theorem part23 {v2 : BitVec 32} {v581 : FVec F S128x256 .f32} {k : _ → Prog (TpuEff nD τ sig (Elt F) Λ₀ .tc) α}
    (hw : shapeCast S128x256 (k0_pay29 v581) shapeCasts_S1x128x256_S128x256 = V 8 c)
    (h : ∀ a0 a1, St V c 9 17 19 18 (Held c D o) ⊢ WP (k ⟨a0, a1⟩) Q) :
    St V c 8 16 18 18 (Held c D o) ⊢ WP (k0_part23 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v581 >>= k) Q := by
  rw [k0_part23_eq_skeleton]; unfold k0_part23_skel
  simp only [Prog.lift, Prog.bind_op, Prog.bind_ret, Prog.pure_eq_ret]
  refine step_waitSend V 16 (by decide) (by decide) rfl ?_
  refine step_store V 6 8 (by decide) hw 17 18 (by decide) (by decide) (by decide) (by decide) ?_
  refine step_send V 18 (sendDev_eq 18 c) (by decide) (by decide) ?_
  exact h _ _

/-- Part 24: the device sends transfer 19, sends transfer 20, awaits transfer 18, reads it. -/
theorem part24 {v2 : BitVec 32} {v581 : FVec F S128x256 .f32} {v604 : BitVec 32} {k : _ → Prog (TpuEff nD τ sig (Elt F) Λ₀ .tc) α}
    (h : ∀ a0 a2, St V c 9 17 21 19 (Held c D o) ⊢ WP (k ⟨a0, k0_pay30 v581 (up (V 8 (xr 4 c))), a2⟩) Q) :
    St V c 9 17 19 18 (Held c D o) ⊢ WP (k0_part24 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 c v2 v581 v604 >>= k) Q := by
  rw [k0_part24_eq_skeleton]; unfold k0_part24_skel
  simp only [Prog.lift, Prog.bind_op, Prog.bind_ret, Prog.pure_eq_ret]
  refine step_send V 19 (sendDev_eq 19 c) (by decide) (by decide) ?_
  refine step_send V 20 (sendDev_eq 20 c) (by decide) (by decide) ?_
  refine step_waitRecv V 18 (by decide) rfl ?_
  refine step_read V 18 (by decide) ?_
  exact h _ _

/-- Part 25: the device awaits transfer 19, reads it, awaits transfer 20, reads it, stores the result. -/
theorem part25 {v198 : FVec F S256x128 .bf16} {v615 : BitVec 32} {v626 : BitVec 32} {v648 : FVec F S128x256 .f32} {c1 : BitVec 32} {k : _ → Prog (TpuEff nD τ sig (Elt F) Λ₀ .tc) α}
    (h : St V c 9 17 21 21 (Held c D (k0_pay31 v198 v648 (up (V 8 (xr 5 c))) (up (V 8 (xr 6 c))))) ⊢ WP (k ⟨⟩) Q) :
    St V c 9 17 21 19 (Held c D o) ⊢ WP (k0_part25 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3 v198 v615 v626 v648 c1 >>= k) Q := by
  rw [k0_part25_eq_skeleton]; unfold k0_part25_skel
  simp only [Prog.lift, Prog.bind_op, Prog.bind_ret, Prog.pure_eq_ret]
  refine step_waitRecv V 19 (by decide) rfl ?_
  refine step_read V 19 (by decide) ?_
  refine step_waitRecv V 20 (by decide) rfl ?_
  refine step_read V 20 (by decide) ?_
  refine step_frame V (held_take_res) (wp_load_buf rfl) ?_
  refine step_frame V (held_put) (wp_store_buf (Memref.write_access_unit_zero_univ (Elt F) cc0_stg7_0 hz _ _ _)) ?_
  exact h

/-- Part 26: the device awaits send 17, awaits send 18, awaits send 19. -/
theorem part26  {k : _ → Prog (TpuEff nD τ sig (Elt F) Λ₀ .tc) α}
    (h : St V c 9 20 21 21 (Held c D o) ⊢ WP (k ⟨⟩) Q) :
    St V c 9 17 21 21 (Held c D o) ⊢ WP (k0_part26 bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3  >>= k) Q := by
  rw [k0_part26_eq_skeleton]; unfold k0_part26_skel
  simp only [Prog.lift, Prog.bind_op, Prog.bind_ret, Prog.pure_eq_ret]
  refine step_waitSend V 17 (by decide) (by decide) rfl ?_
  refine step_waitSend V 18 (by decide) (by decide) rfl ?_
  refine step_waitSend V 19 (by decide) (by decide) rfl ?_
  exact h
end Parts

end Cert.AllReduce

end
-- ==== Proof.Body.lean ====
module

public import proofs.«01_k».proof.Proof.Parts
public import proofs.«01_k».proof.Proof.Gen.KernelIdeal.Skeleton

@[expose] public section

set_option Elab.async false

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is stored in each round -/

/-- A running sum in half precision, as it is sent. -/
def half (a : FVec F S128x256 .f32) : FVec F S128x256 .bf16 := truncf .bf16 a bitsLt_bf16_f32

/-- A value that has arrived is added to a running sum. -/
def plus (a : FVec F S128x256 .f32) (w : FVec F S128x256 .bf16) : FVec F S128x256 .f32 := addf a (extf .f32 w bitsLt_bf16_f32)

/-- A round with the partners `i`, `j` and `k`: what each device holds after it, of what each held before it. -/
def round3 (i j k : Fin 7) (a : Dev nD → FVec F S128x256 .f32) (c : Dev nD) : FVec F S128x256 .f32 :=
  plus (plus (plus (a c) (half (a (xr i c)))) (half (a (xr j c)))) (half (a (xr k c)))

/-- A round with the one partner `i`. -/
def round1 (i : Fin 7) (a : Dev nD → FVec F S128x256 .f32) (c : Dev nD) : FVec F S128x256 .f32 := plus (a c) (half (a (xr i c)))

/-- The rounds of one sum over all devices. -/
def total (a : Dev nD → FVec F S128x256 .f32) : Dev nD → FVec F S128x256 .f32 := round3 4 5 6 (round1 3 (round3 0 1 2 a))

/-- What a hidden layer hands on. -/
def hidden (a : FVec F S128x256 .f32) : FVec F S128x256 .bf16 :=
  half (maximumf a (broadcast S128x256 (Scalar.ofBits .f32 0x00000000#32)))

/-- The product of the second weights of a layer and the first of the next. -/
def fuse (p : FVec F S256x128 .bf16) (q : FVec F S128x256 .bf16) : FVec F S256x256 .bf16 :=
  truncf .bf16 (matmul dot_S256x128_S128x256_S256x256_1_0_0_1_n_n none p q (constant S256x256 .f32 0x00000000#32)) bitsLt_bf16_f32

/-- A hidden layer's value times such a product. -/
def layer (m : FVec F S256x256 .bf16) (a : FVec F S128x256 .f32) : FVec F S128x256 .f32 :=
  matmul dot_S128x256_S256x256_S128x256_1_0_0_1_n_n none (hidden a) m (constant S128x256 .f32 0x00000000#32)

variable (X : Dev nD → Operands F)

/-- Each device's share of the first layer's sum, -/
def share0 (c : Dev nD) : FVec F S128x256 .f32 :=
  matmul dot_S128x128_S128x256_S128x256_1_0_0_1_n_n none (X c).x (X c).in0 (constant S128x256 .f32 0x00000000#32)
/-- of the second, -/
def share1 (c : Dev nD) : FVec F S128x256 .f32 := layer (fuse (X c).out0 (X c).in1) (total (share0 X) c)
/-- and of the third. -/
def share2 (c : Dev nD) : FVec F S128x256 .f32 := layer (fuse (X c).out1 (X c).in2) (total (share1 X) c)

/-- Each device's columns of the result. -/
def outcome (c : Dev nD) : FVec F S128x128 .f32 :=
  matmul dot_S128x256_S256x128_S128x128_1_0_0_1_n_n none (hidden (total (share2 X) c)) (X c).out2 (constant S128x128 .f32 0x00000000#32)

/-- The running sums at the start of each round. -/
def acc : Fin 9 → Dev nD → FVec F S128x256 .f32 :=
  ![share0 X, round3 0 1 2 (share0 X), round1 3 (round3 0 1 2 (share0 X)),
    share1 X, round3 0 1 2 (share1 X), round1 3 (round3 0 1 2 (share1 X)),
    share2 X, round3 0 1 2 (share2 X), round1 3 (round3 0 1 2 (share2 X))]

/-- What each device sends in each round. -/
def sent (r : Fin 9) (c : Dev nD) : FVec F S128x256 .bf16 := half (acc X r c)

/-! ## The kernel's values are these -/

variable {X} {c : Dev nD}

theorem up_half (a : FVec F S128x256 .f32) {r : Fin 9} (h : a = acc X r c) :
    shapeCast S128x256 (up (half a)) shapeCasts_S1x128x256_S128x256 = sent X r c := by
  rw [down_up, h]; rfl

theorem val0 : k0_pay1 (X c).x (X c).in0 = acc X 0 c := by
  unfold k0_pay1
  simp only [down_up, shapeCast_self]
  rfl
theorem val1 : k0_pay6 (k0_pay4 (acc X 0 c) (up (sent X 0 (xr 0 c))) (up (sent X 0 (xr 1 c)))) (k0_pay5 (up (sent X 0 (xr 2 c)))) = acc X 1 c := by
  unfold k0_pay6 k0_pay4 k0_pay5
  simp only [down_up, shapeCast_self]
  rfl
theorem val2 : k0_pay9 (acc X 1 c) (up (sent X 1 (xr 3 c))) = acc X 2 c := by
  unfold k0_pay9
  simp only [down_up, shapeCast_self]
  rfl
theorem val3 : k0_pay14 (k0_pay3 (X c).out0 (X c).in1) (k0_pay13 (acc X 2 c) (up (sent X 2 (xr 4 c)))) (up (sent X 2 (xr 5 c))) (up (sent X 2 (xr 6 c))) = acc X 3 c := by
  unfold k0_pay14 k0_pay3 k0_pay13
  simp only [down_up, shapeCast_self]
  rfl
theorem val4 : k0_pay18 (k0_pay17 (acc X 3 c) (up (sent X 3 (xr 0 c)))) (up (sent X 3 (xr 1 c))) (up (sent X 3 (xr 2 c))) = acc X 4 c := by
  unfold k0_pay18 k0_pay17
  simp only [down_up, shapeCast_self]
  rfl
theorem val5 : k0_pay20 (acc X 4 c) (up (sent X 4 (xr 3 c))) = acc X 5 c := by
  unfold k0_pay20
  simp only [down_up, shapeCast_self]
  rfl
theorem val6 : k0_pay23 (k0_pay8 (X c).out1 (X c).in2) (k0_pay22 (acc X 5 c) (up (sent X 5 (xr 4 c)))) (up (sent X 5 (xr 5 c))) (up (sent X 5 (xr 6 c))) = acc X 6 c := by
  unfold k0_pay23 k0_pay8 k0_pay22
  simp only [down_up, shapeCast_self]
  rfl
theorem val7 : k0_pay26 (k0_pay25 (acc X 6 c) (up (sent X 6 (xr 0 c)))) (up (sent X 6 (xr 1 c))) (up (sent X 6 (xr 2 c))) = acc X 7 c := by
  unfold k0_pay26 k0_pay25
  simp only [down_up, shapeCast_self]
  rfl
theorem val8 : k0_pay28 (acc X 7 c) (up (sent X 7 (xr 3 c))) = acc X 8 c := by
  unfold k0_pay28
  simp only [down_up, shapeCast_self]
  rfl
theorem val9 : k0_pay31 (k0_pay12 (X c).out2) (k0_pay30 (acc X 8 c) (up (sent X 8 (xr 4 c)))) (up (sent X 8 (xr 5 c))) (up (sent X 8 (xr 6 c))) = outcome X c := by
  unfold k0_pay31 k0_pay12 k0_pay30
  simp only [down_up, shapeCast_self]
  rfl

section Body

variable {α : Type} {Q : PUnit → sProp (MT nD τ sig Unit (Elt F) ℕ UU ℕ)} {o : FVec F S128x128 .f32}

local notation "WP" => wp frame (wpE (defs₀ (F := F)) 𝒱₀ (c : Thread nD τ) none) Set.univ

set_option maxRecDepth 65536 in
/-- The whole of the kernel's body on one device. -/
theorem body_run (h : St (sent X) c 9 21 21 21 (Held c (X c) (outcome X c)) ⊢ Q ⟨⟩) :
    Pre (sent X) c 0 (Held c (X c) o) ⊢ WP (cc0_body bX (Memref.isWhole_whole _) bIn0 (Memref.isWhole_whole _) bOut0 (Memref.isWhole_whole _) bIn1 (Memref.isWhole_whole _)
      bOut1 (Memref.isWhole_whole _) bIn2 (Memref.isWhole_whole _) bOut2 (Memref.isWhole_whole _) bRes (Memref.isWhole_whole _)
      sndB (Memref.isWhole_whole _) rcvB (Memref.isWhole_whole _) cc0_scratch2 cc0_scratch3) Q := by
  rw [cc0_body_eq_skeleton]; unfold cc0_body_skel
  refine part1 (sent X) fun _ _ => ?_
  dsimp only
  rw [val0]
  refine part2 (sent X) (up_half _ rfl) fun _ _ => ?_
  dsimp only
  refine part3 (sent X) fun _ => ?_
  dsimp only
  refine part4 (sent X) ?_
  dsimp only
  refine part5 (sent X) (up_half _ val1) ?_
  dsimp only
  rw [val1]
  refine part6 (sent X) ?_
  dsimp only
  rw [val2]
  refine part7 (sent X) (up_half _ val2) fun _ _ _ _ => ?_
  dsimp only
  refine part8 (sent X) ?_
  dsimp only
  refine part9 (sent X) ?_
  dsimp only
  rw [val3]
  refine part10 (sent X) (up_half _ val3) fun _ _ _ _ => ?_
  dsimp only
  refine part11 (sent X) ?_
  dsimp only
  refine part12 (sent X) ?_
  dsimp only
  rw [val4]
  refine part13 (sent X) (up_half _ rfl) fun _ _ => ?_
  dsimp only
  refine part14 (sent X) ?_
  dsimp only
  rw [val5]
  refine part15 (sent X) (up_half _ rfl) fun _ _ => ?_
  dsimp only
  refine part16 (sent X) fun _ => ?_
  dsimp only
  refine part17 (sent X) ?_
  dsimp only
  rw [val6]
  refine part18 (sent X) (up_half _ rfl) fun _ _ _ => ?_
  dsimp only
  refine part19 (sent X) ?_
  dsimp only
  refine part20 (sent X) ?_
  dsimp only
  rw [val7]
  refine part21 (sent X) (up_half _ rfl) fun _ => ?_
  dsimp only
  refine part22 (sent X) ?_
  dsimp only
  rw [val8]
  refine part23 (sent X) (up_half _ rfl) fun _ _ => ?_
  dsimp only
  refine part24 (sent X) fun _ _ => ?_
  dsimp only
  refine part25 (sent X) ?_
  rw [val9]
  refine part26 (sent X) ?_
  simp only [Prog.lift, Prog.bind_op, Prog.bind_ret, Prog.pure_eq_ret]
  refine step_waitSend (sent X) 20 (by decide) (by decide) rfl ?_
  rw [wp_ret]
  refine (show St (sent X) c 9 21 21 21 (Held c (X c) (outcome X c)) ⊢ iprop(|={Set.univ}=> Q ⟨⟩) from ?_)
  iintro H
  imodintro
  iapply h $$ H

end Body

end Cert.AllReduce

end
-- ==== Proof.Setup.lean ====
/-
# The protocol's ghost state at the launch

Before the kernels start, the semaphores of all devices are put under the protocol at once, and every device gets its
part: its positions at its own cells, and the duties it will discharge. The duties are minted with the cell they
belong to and then handed to the device that discharges them: a barrier duty and a receive duty to the partner.
-/
module

public import proofs.«01_k».proof.Proof.Steps

@[expose] public section

set_option Elab.async false

noncomputable section

namespace Cert.AllReduce

open Cert.KernelIdeal Cert.KernelIdeal.Gen
open Idealize.ShloMosaic
open Idealize.ShloMosaic.TcCoe
open Idealize.ShloMosaic.Pipeline (cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 9 → Dev nD → FVec F S128x256 .bf16)

/-! ## The cells and the duties, numbered -/

/-- A device's transfer cells: a send cell or a receive cell. -/
abbrev Own : Type := Fin 21 ⊕ Fin 21
/-- Its cells: the barrier cell or a transfer cell. -/
abbrev Cells : Type := Unit ⊕ Own
/-- The duties of its cells: of the barrier cell one per partner, of a transfer cell one. -/
abbrev Duties : Type := Fin 7 ⊕ Own

def ownSem : Own → SemLoc sig
  | .inl s => .dma (sendSem s)
  | .inr s => .dma (recvSem s)
def place : Cells → SemLoc sig
  | .inl _ => .reg barS
  | .inr k => ownSem k
/-- The cell of number `k` of device `c`. -/
def cellAt (p : Dev nD × Cells) : GSem nD τ sig := ((p.1 : Thread nD τ), place p.2)
/-- A duty as it is minted. -/
def mint (p : Dev nD × Duties) : GSem nD τ sig × ℕ × Fin 7 := match p.2 with
  | .inl j => (barCell p.1, 0, j)
  | .inr k => (cellAt (p.1, .inr k), 0, 0)

theorem ownSem_injective : Function.Injective ownSem := by
  rintro (s | s) (t | t) h
  · have := congrArg asSend h
    rw [show ownSem (.inl s) = .dma (sendSem s) from rfl, show ownSem (.inl t) = .dma (sendSem t) from rfl, asSend_send, asSend_send] at this
    rw [Option.some.inj this]
  · have := congrArg asSend h
    rw [show ownSem (.inl s) = .dma (sendSem s) from rfl, show ownSem (.inr t) = .dma (recvSem t) from rfl, asSend_send, asSend_recv] at this
    cases this
  · have := congrArg asSend h
    rw [show ownSem (.inr s) = .dma (recvSem s) from rfl, show ownSem (.inl t) = .dma (sendSem t) from rfl, asSend_send, asSend_recv] at this
    cases this
  · have := congrArg asRecv h
    rw [show ownSem (.inr s) = .dma (recvSem s) from rfl, show ownSem (.inr t) = .dma (recvSem t) from rfl, asRecv_recv, asRecv_recv] at this
    rw [Option.some.inj this]

theorem ownSem_ne (k : Own) : ownSem k ≠ .reg barS := by
  rcases k with s | s <;> exact dma_ne_bar _

theorem place_injective : Function.Injective place := by
  rintro (u | k) (u' | k') h
  · rfl
  · exact absurd h.symm (ownSem_ne k')
  · exact absurd h (ownSem_ne k)
  · rw [ownSem_injective h]

theorem cellAt_injective : Function.Injective cellAt := by
  rintro ⟨c, k⟩ ⟨c', k'⟩ h
  have h1 : c = c' := congrArg (fun g : GSem nD τ sig => g.1.1) h
  have h2 : k = k' := place_injective (congrArg Prod.snd h)
  rw [h1, h2]

theorem mint_injective : Function.Injective mint := by
  rintro ⟨c, j | k⟩ ⟨c', j' | k'⟩ h
  · have h1 : c = c' := congrArg (fun x : GSem nD τ sig × ℕ × Fin 7 => x.1.1.1) h
    have h2 : j = j' := congrArg (fun x : GSem nD τ sig × ℕ × Fin 7 => x.2.2) h
    rw [h1, h2]
  · exact absurd (congrArg (fun x : GSem nD τ sig × ℕ × Fin 7 => x.1.2) h).symm (ownSem_ne k')
  · exact absurd (congrArg (fun x : GSem nD τ sig × ℕ × Fin 7 => x.1.2) h) (ownSem_ne k)
  · have h1 := cellAt_injective (congrArg Prod.fst h)
    have h2 : c = c' := congrArg Prod.fst h1
    have h3 : k = k' := Sum.inr.inj (congrArg Prod.snd h1)
    rw [h2, h3]

def allCells : Finset (GSem nD τ sig) := Finset.univ.map ⟨cellAt, cellAt_injective⟩
def allDuties : Finset (GSem nD τ sig × ℕ × Fin 7) := Finset.univ.map ⟨mint, mint_injective⟩

/-- The launch's element of the resource algebra. -/
def u₀ : UU := (initOf (Pipeline.cells cfgs cellOf_inj) (Pipeline.launchToks cfgs cellOf_inj), initOf allCells allDuties)

omit [FloatOps F] in
/-- A family over a sum of three index types. -/
theorem bigSep_three {A B C : Type} [Fintype A] [Fintype B] [Fintype C] (Φ : A ⊕ (B ⊕ C) → sProp 𝕄) :
    bigSep Finset.univ Φ = iprop(bigSep Finset.univ (fun a => Φ (.inl a)) ∗ bigSep Finset.univ (fun b => Φ (.inr (.inl b)))
      ∗ bigSep Finset.univ (fun c => Φ (.inr (.inr c)))) :=
  (bigSep_univ_sum Φ).trans (congrArg (fun P : sProp 𝕄 => iprop(bigSep Finset.univ (fun a => Φ (.inl a)) ∗ P))
    (bigSep_univ_sum fun x => Φ (.inr x)))

/-! ## What the launch deals -/

/-- The duty of a number, -/
def dutyAt (c : Dev nD) (t : Duties) : sProp 𝕄 := dutyTok ER (mint (c, t)).1 (mint (c, t)).2.1 (mint (c, t)).2.2
/-- and the position at the cell of a number, with the mark that it is at its first round. -/
def posAt (c : Dev nD) (k : Cells) : sProp 𝕄 := iprop(atPos ER (cellAt (c, k)) 0 ∅ 0 ∗ reached ER (cellAt (c, k)) 0)

def G (c : Dev nD) : sProp 𝕄 :=
  iprop((bigSep Finset.univ fun k : Cells => roundState ER (sched V) (cellAt (c, k)) 0)
    ∗ (bigSep Finset.univ (posAt c)) ∗ bigSep Finset.univ (dutyAt c))

omit [FloatOps F] in
/-- The launch element is every device's part. -/
theorem fund : BI.own (ER (initOf allCells allDuties)) ⊢ (|==> bigSep Finset.univ (G V) : sProp 𝕄) := by
  have hX (Φ : GSem nD τ sig → sProp 𝕄) : bigSep allCells Φ = bigSep Finset.univ fun c : Dev nD => bigSep Finset.univ fun k : Cells => Φ (cellAt (c, k)) := by
    unfold allCells; rw [bigSep_map, bigSep_univ_prod]; rfl
  have hT : bigSep allDuties (fun x => (dutyTok ER x.1 x.2.1 x.2.2 : sProp 𝕄)) = bigSep Finset.univ fun c : Dev nD => bigSep Finset.univ (dutyAt c) := by
    unfold allDuties; rw [bigSep_map, bigSep_univ_prod]; rfl
  iintro HX
  imod (Rounds.fund ER (sched V) allCells allDuties) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAt; simp only [bigSep_sep']
  isplitl [Hst']; · iexact Hst'
  isplitl [Hat' Hr']
  · isplitl [Hat'] <;> iassumption
  iexact Htok'

omit [FloatOps F] in
/-- The barrier semaphore is the only one the kernel does not allocate. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero, as its own and the barrier semaphore. -/
theorem sems0_eq (c : Dev nD) :
    (bigSep Finset.univ fun k : Cells => semVal (cellAt (c, k)) 0 : sProp 𝕄)
      = iprop(semVal (barCell c) 0 ∗ Pipeline.ownSems0 (Ix := Unit) (Name := ℕ) (U := UU) (Lvl := ℕ) (Val := Elt F) (τ := τ) ownSem c) := by
  refine (bigSep_univ_sum _).trans ?_
  rw [Finset.univ_unique, bigSep_singleton]; rfl

omit [FloatOps F] in
/-- One device's cells are put under the protocol. -/
theorem core_alloc (c : Dev nD) :
    iprop(Pipeline.ownSems0 (Ix := Unit) (Name := ℕ) (U := UU) (Lvl := ℕ) (Val := Elt F) (τ := τ) ownSem c ∗ unscopedSems0 c ∗ G V c)
      ⊢ |={Set.univ}=> iprop((bigSep Finset.univ fun k => iprop(∃ κ : ℕ, cellInv ER (sched V) κ (cellAt (c, k))))
          ∗ (bigSep Finset.univ (posAt c)) ∗ bigSep Finset.univ (dutyAt c)) := by
  unfold G
  iintro ⟨Hos, Hus, Hst, Hat, Htok⟩
  ihave Hv := (show iprop(Pipeline.ownSems0 (Ix := Unit) (Name := ℕ) (U := UU) (Lvl := ℕ) (Val := Elt F) (τ := τ) ownSem c ∗ unscopedSems0 c)
      ⊢ (bigSep Finset.univ fun k : Cells => semVal (cellAt (c, k)) 0 : sProp 𝕄) from by
        rw [sems0_eq, unscopedSems0_eq]
        iintro ⟨H1, H2⟩
        isplitl [H2] <;> iassumption) $$ [Hos Hus]
  · isplitl [Hos] <;> iassumption
  imod (show iprop((bigSep Finset.univ fun k : Cells => semVal (cellAt (c, k)) 0) ∗ bigSep Finset.univ fun k : Cells => roundState ER (sched V) (cellAt (c, k)) 0)
      ⊢ (|={Set.univ}=> bigSep Finset.univ fun k => iprop(∃ κ : ℕ, cellInv ER (sched V) κ (cellAt (c, k))) : sProp 𝕄) from by
        rw [← bigSep_sep']
        exact (bigSep_mono fun k _ => (Rounds.body_intro ER (sched V) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties go to the devices that discharge them -/

/-- Partners swapped, the partner chosen by the second component. -/
def swapBy {I : Type} (t : I → Fin 7) : Dev nD × I ≃ Dev nD × I where
  toFun p := (xr (t p.2) p.1, p.2)
  invFun p := (xr (t p.2) p.1, p.2)
  left_inv p := by rcases p with ⟨c, i⟩; exact congrArg (·, i) (xr_xr (t i) c)
  right_inv p := by rcases p with ⟨c, i⟩; exact congrArg (·, i) (xr_xr (t i) c)

omit [FloatOps F] in
/-- A family over the devices and an index, each member handed to a partner. -/
theorem around {I : Type} [Fintype I] (t : I → Fin 7) (Φ : Dev nD → I → sProp 𝕄) :
    (bigSep Finset.univ fun c : Dev nD => bigSep Finset.univ fun i : I => Φ c i)
      = bigSep Finset.univ fun c : Dev nD => bigSep Finset.univ fun i : I => Φ (xr (t i) c) i := by
  rw [← bigSep_univ_prod (fun p : Dev nD × I => Φ p.1 p.2), ← bigSep_univ_prod (fun p : Dev nD × I => Φ (xr (t p.2) p.1) p.2),
    bigSep_univ_equiv (swapBy t) (fun p : Dev nD × I => Φ p.1 p.2)]
  rfl

/-- What a device keeps: its positions, and the duties it discharges. -/
def mine (c : Dev nD) : sProp 𝕄 :=
  iprop((atPos ER (barCell c) 0 ∅ 0 ∗ (bigSep Finset.univ fun s : Fin 21 => atPos ER (sendCell c s) 0 ∅ 0)
      ∗ bigSep Finset.univ fun s : Fin 21 => atPos ER (recvCell c s) 0 ∅ 0)
    ∗ (bigSep Finset.univ fun j : Fin 7 => dutyTok ER (barCell (xr j c)) 0 j)
    ∗ (bigSep Finset.univ fun s : Fin 21 => dutyTok ER (sendCell c s) 0 0)
    ∗ bigSep Finset.univ fun s : Fin 21 => dutyTok ER (recvCell (xr (tm s) c) s) 0 0)

/-- That every cell follows the protocol. -/
def everyCell : sProp 𝕄 :=
  iprop((bigSep Finset.univ fun d : Dev nD => cellOk V (barCell d))
    ∗ (bigSep Finset.univ fun p : Dev nD × Fin 21 => cellOk V (sendCell p.1 p.2))
    ∗ (bigSep Finset.univ fun p : Dev nD × Fin 21 => cellOk V (recvCell p.1 p.2)))

omit [FloatOps F] in
instance everyCell_persistent : BI.Persistent (everyCell V) := by unfold everyCell; infer_instance

/-- What the global step makes for a device. -/
def G' (c : Dev nD) : sProp 𝕄 := iprop(everyCell V ∗ mine c)

omit [FloatOps F] in
/-- The duties of all devices, handed around. -/
theorem duties_around : (bigSep Finset.univ fun c : Dev nD => bigSep Finset.univ (dutyAt (F := F) c))
    = iprop((bigSep Finset.univ fun c : Dev nD => bigSep Finset.univ fun j : Fin 7 => dutyTok ER (barCell (xr j c)) 0 j)
      ∗ (bigSep Finset.univ fun c : Dev nD => bigSep Finset.univ fun s : Fin 21 => dutyTok ER (sendCell c s) 0 0)
      ∗ bigSep Finset.univ fun c : Dev nD => bigSep Finset.univ fun s : Fin 21 => dutyTok ER (recvCell (xr (tm s) c) s) 0 0) := by
  rw [bigSep_congr (fun (c : Dev nD) _ => bigSep_three (dutyAt (F := F) c)), bigSep_sep', bigSep_sep',
    ← around (fun j => j) (fun c j => (dutyTok ER (barCell c) 0 j : sProp 𝕄)),
    ← around tm (fun c s => (dutyTok ER (recvCell c s) 0 0 : sProp 𝕄))]
  rfl

omit [FloatOps F] in
/-- The positions of all devices. -/
theorem positions_eq : (bigSep Finset.univ fun c : Dev nD => bigSep Finset.univ fun k : Cells => (atPos ER (cellAt (c, k)) 0 ∅ 0 : sProp 𝕄))
    = bigSep Finset.univ fun c : Dev nD => iprop(atPos ER (barCell c) 0 ∅ 0 ∗ (bigSep Finset.univ fun s : Fin 21 => atPos ER (sendCell c s) 0 ∅ 0)
      ∗ bigSep Finset.univ fun s : Fin 21 => atPos ER (recvCell c s) 0 ∅ 0) :=
  bigSep_congr fun c _ => by
    rw [bigSep_three, Finset.univ_unique, bigSep_singleton]; rfl

omit [FloatOps F] in
/-- The records of all cells. -/
theorem everyCell_eq : (bigSep Finset.univ fun c : Dev nD => bigSep Finset.univ fun k : Cells => cellOk V (cellAt (c, k))) = everyCell V := by
  unfold everyCell
  rw [bigSep_congr (fun (c : Dev nD) _ => bigSep_three (fun k : Cells => cellOk V (cellAt (c, k)))), bigSep_sep', bigSep_sep',
    bigSep_univ_prod (fun p : Dev nD × Fin 21 => cellOk V (sendCell p.1 p.2)), bigSep_univ_prod (fun p : Dev nD × Fin 21 => cellOk V (recvCell p.1 p.2)),
    bigSep_congr (fun (c : Dev nD) _ => by rw [Finset.univ_unique, bigSep_singleton])]
  rfl

omit [FloatOps F] in
/-- A persistent fact goes to every member of a family. -/
theorem bigSep_share {I : Type} [DecidableEq I] (S : Finset I) (R : sProp 𝕄) [BI.Persistent R] (Φ : I → sProp 𝕄) :
    iprop(R ∗ bigSep S Φ) ⊢ bigSep S fun i => iprop(R ∗ Φ i) :=
  (sep_mono_left (BI.bigSep_of_persistent S R)).trans (Entails.of_eq (bigSep_sep' S (fun _ => R) Φ).symm)

omit [FloatOps F] in
/-- The devices' parts are regrouped. -/
theorem regroup :
    (bigSep Finset.univ fun c : Dev nD => iprop((bigSep Finset.univ fun k => iprop(∃ κ : ℕ, cellInv ER (sched V) κ (cellAt (c, k))))
          ∗ (bigSep Finset.univ (posAt c)) ∗ bigSep Finset.univ (dutyAt c)) : sProp 𝕄)
      ⊢ bigSep Finset.univ (G' V) := by
  unfold posAt
  simp only [bigSep_sep']
  rw [duties_around, positions_eq]
  iintro ⟨HI, ⟨Hat, HR⟩, Hb, Hs, Hr⟩
  ihave #HE := (show iprop((bigSep Finset.univ fun c : Dev nD => bigSep Finset.univ fun k : Cells => iprop(∃ κ : ℕ, cellInv ER (sched V) κ (cellAt (c, k))))
      ∗ bigSep Finset.univ fun c : Dev nD => bigSep Finset.univ fun k : Cells => reached ER (cellAt (c, k)) 0) ⊢ everyCell V from by
        rw [← everyCell_eq]; unfold cellOk; simp only [bigSep_sep']; exact BI.Entails.refl _) $$ [HI HR]
  · isplitl [HI] <;> iassumption
  iapply (bigSep_share Finset.univ (everyCell V) mine)
  isplitr; · iexact HE
  unfold mine
  simp only [bigSep_sep']
  isplitl [Hat]; · iexact Hat
  isplitl [Hb]; · iexact Hb
  isplitl [Hs]; · iexact Hs
  iexact Hr

omit [FloatOps F] in
/-- The global step: all devices' semaphores at once. -/
theorem glob : (bigSep Finset.univ fun c => iprop(Pipeline.ownSems0 (Ix := Unit) (Name := ℕ) (U := UU) (Lvl := ℕ) (Val := Elt F) (τ := τ) ownSem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The launch credit -/

/-- What device `c` owes at the launch. -/
abbrev O₀ (c : Dev nD) : CellTallies nD τ sig Unit := owed c 0

theorem sum_tally {I : Type} (S : Finset I) (f : I → GSem nD τ sig) (k : ℕ) (g : GSem nD τ sig) :
    (∑ i ∈ S, tallyAt (f i) () k : CellTallies nD τ sig Unit) g () = ∑ i ∈ S, if g = f i then k else 0 := by
  rw [Finset.sum_apply, Finsupp.finset_sum_apply]
  refine Finset.sum_congr rfl fun i _ => ?_
  rw [tallyAt_apply]
  simp only [and_true]

theorem bar_eq_iff {a b : Dev nD} : barCell a = barCell b ↔ a = b :=
  ⟨fun h => congrArg (fun g : GSem nD τ sig => g.1.1) h, fun h => h ▸ rfl⟩
theorem recv_eq_iff {a b : Dev nD} {s t : Fin 21} : recvCell a s = recvCell b t ↔ s = t ∧ a = b := by
  constructor
  · intro h
    have h1 : s = t := Option.some.inj (by rw [← asRecv_recv, ← asRecv_recv]; exact congrArg (fun g : GSem nD τ sig => asRecv g.2) h)
    exact ⟨h1, congrArg (fun g : GSem nD τ sig => g.1.1) h⟩
  · rintro ⟨rfl, rfl⟩; rfl
theorem recv_ne_bar {a b : Dev nD} {s : Fin 21} : recvCell a s ≠ barCell b := fun h => dma_ne_bar _ (congrArg Prod.snd h)

theorem eq_xr_iff {j : Fin 7} {c d : Dev nD} : c = xr j d ↔ d = xr j c :=
  ⟨fun h => by rw [h, xr_xr], fun h => by rw [h, xr_xr]⟩

theorem owed_bar (d c : Dev nD) : O₀ d (barCell c) () = ∑ j : Fin 7, if d = xr j c then 1 else 0 := by
  unfold O₀ owed recvOwed
  rw [Pi.add_apply, Finsupp.add_apply, sum_tally, sum_tally, Finset.sum_eq_zero (fun s _ => if_neg recv_ne_bar.symm), zero_add]
  refine Finset.sum_congr (Finset.filter_true_of_mem fun _ _ => Nat.zero_le _) fun j _ => ?_
  simp only [bar_eq_iff, eq_xr_iff]

theorem owed_recv (d c : Dev nD) (s : Fin 21) : O₀ d (recvCell c s) () = if d = xr (tm s) c then N else 0 := by
  unfold O₀ owed recvOwed
  rw [Pi.add_apply, Finsupp.add_apply, sum_tally, sum_tally, Finset.sum_eq_zero (s := Finset.univ.filter fun j : Fin 7 => 0 ≤ j.val)
    (fun j _ => if_neg recv_ne_bar), add_zero, Finset.filter_true_of_mem fun _ _ => Nat.zero_le _, Finset.sum_eq_single s]
  · simp only [recv_eq_iff, true_and, eq_xr_iff]
  · intro t _ ht
    exact if_neg fun h => ht (recv_eq_iff.mp h).1.symm
  · exact fun h => absurd (Finset.mem_univ s) h

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (xr j c) fun _ => 1).trans (if_pos (Finset.mem_univ _))]
  rfl

theorem launch_recv (c : Dev nD) (s : Fin 21) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (xr (tm s) c) fun _ => N, if_pos (Finset.mem_univ _)]

omit [FloatOps F] in
/-- The credits a device starts with: seven units at the barrier, and each transfer it receives. -/
theorem creds (c : Dev nD) :
    (Pipeline.launchCred O₀ c : sProp 𝕄) ⊢ iprop(cred (tallyAt (barCell c) () 7) ∗ bigSep Finset.univ fun s : Fin 21 => cred (tallyAt (recvCell c s) () N)) := by
  unfold Pipeline.launchCred
  rw [bigSep_part (Finset.subset_univ (Finset.univ.map ⟨place, place_injective⟩)), bigSep_map, bigSep_three, Finset.univ_unique, bigSep_singleton]
  iintro ⟨⟨Hb, -, Hr⟩, -⟩
  isplitl [Hb]
  · iapply (Entails.of_eq (congrArg (fun T => (cred T : sProp 𝕄)) (launch_bar c))); iexact Hb
  · iapply (Entails.of_eq (bigSep_congr (s := Finset.univ) fun (s : Fin 21) _ => congrArg (fun T => (cred T : sProp 𝕄)) (launch_recv c s))); iexact Hr

end Cert.AllReduce

end
-- ==== Proof.Launch.lean ====
/-
# The run of the kernel on all devices

The kernel's buffers are cut into the slots and halves the transfers use, the body is run from what the launch deals,
and the launch theorem of the pipeline library gives the run of the whole program: it terminates, the operands are
unchanged, the semaphores are back at zero, and every device's result is `outcome`.
-/
module

public import proofs.«01_k».proof.Proof.Body
public import proofs.«01_k».proof.Proof.Setup
public import proofs.«01_k».proof.Proof.Gen.KernelIdeal.Points
public import proofs.«01_k».proof.Proof.Gen.KernelIdeal.Frame
public import Idealize.ShloMosaic.Lib.Pipeline.CollectiveSegs

@[expose] public section

set_option Elab.async false

noncomputable section

namespace Cert.AllReduce

open Cert.KernelIdeal Cert.KernelIdeal.Gen
open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 9 → Dev nD → FVec F S128x256 .bf16)

omit [FloatOps F] in
/-- A family changes member by member. -/
theorem each {I : Type} [Fintype I] {Φ Ψ : I → sProp 𝕄} (h : ∀ i, Φ i ⊢ Ψ i) : bigSep Finset.univ Φ ⊢ bigSep Finset.univ Ψ :=
  bigSep_mono fun i _ => h i

/-! ## The kernel's buffers, piece by piece -/

theorem rcvM_elems (s : Fin 21) : (rcvM s).view.set = (rcvR s).set := by
  refine (Memref.set_view_squeeze _ _).trans ?_
  show (rcvB.view.slice (rcvR s)).set = _
  rw [View.set_slice]
  exact Finset.map_refl
theorem sndM_elems (p : Fin 2) : (sndM p).view.set = (sndR p).set := by
  refine (Memref.set_view_squeeze _ _).trans ?_
  show (sndB.view.slice (sndR p)).set = _
  rw [View.set_slice]
  exact Finset.map_refl

theorem rcv_disjoint (s t : Fin 21) (h : s ≠ t) : Disjoint (rcvR s).set (rcvR t).set :=
  Rect.unit_disjoint (0 : Fin 3) (by
    have : s.val ≠ t.val := fun e => h (Fin.ext e)
    show s.val + 1 ≤ t.val ∨ t.val + 1 ≤ s.val
    omega)
theorem snd_disjoint (s t : Fin 2) (h : s ≠ t) : Disjoint (sndR s).set (sndR t).set :=
  Rect.unit_disjoint (0 : Fin 3) (by
    have : s.val ≠ t.val := fun e => h (Fin.ext e)
    show s.val + 1 ≤ t.val ∨ t.val + 1 ≤ s.val
    omega)
theorem rcv_cover : Finset.univ.biUnion (fun s : Fin 21 => (rcvR s).set) = Finset.univ := by
  ext i
  simp only [Finset.mem_biUnion, Finset.mem_univ, true_and, iff_true]
  refine ⟨⟨(i 0).val, (i 0).isLt⟩, Rect.mem_set_unit.mpr fun a => ?_⟩
  have h1 := (i 1).isLt
  have h2 := (i 2).isLt
  fin_cases a
  · exact ⟨Nat.le_refl _, Nat.lt_succ_self _⟩
  · exact ⟨Nat.zero_le _, by simpa using h1⟩
  · exact ⟨Nat.zero_le _, by simpa using h2⟩
theorem snd_cover : Finset.univ.biUnion (fun s : Fin 2 => (sndR s).set) = Finset.univ := by
  ext i
  simp only [Finset.mem_biUnion, Finset.mem_univ, true_and, iff_true]
  refine ⟨⟨(i 0).val, (i 0).isLt⟩, Rect.mem_set_unit.mpr fun a => ?_⟩
  have h1 := (i 1).isLt
  have h2 := (i 2).isLt
  fin_cases a
  · exact ⟨Nat.le_refl _, Nat.lt_succ_self _⟩
  · exact ⟨Nat.zero_le _, by simpa using h1⟩
  · exact ⟨Nat.zero_le _, by simpa using h2⟩

/-- The receive buffer at any contents, -/
def rcvAny (c : Dev nD) : sProp 𝕄 :=
  iprop(∃ f : Buf (Elt F) ((c : Thread nD τ).loc cc0_scratch1), ((c : Thread nD τ).loc cc0_scratch1) ↦{fullShare} f)
/-- and the send buffer. -/
def sndAny (c : Dev nD) : sProp 𝕄 :=
  iprop(∃ f : Buf (Elt F) ((c : Thread nD τ).loc cc0_scratch0), ((c : Thread nD τ).loc cc0_scratch0) ↦{fullShare} f)

omit [FloatOps F] in
theorem vacant_eq (c : Dev nD) (s : Fin 21) : vacant (F := F) c s
    = iprop(∃ f : Buf (Elt F) ((c : Thread nD τ).loc cc0_scratch1), ((c : Thread nD τ).loc cc0_scratch1) ↦[(rcvR s).set]{fullShare} f) := by
  unfold vacant ownsTc owns
  rw [rcvM_elems]
  refine BI.equiv_iff.mp ⟨?_, ?_⟩
  · show iprop(∃ X, ∃ f : Buf (Elt F) ((c : Thread nD τ).loc cc0_scratch1), ⌜(rcvM s).view.read (Elt F) f = X⌝ ∗ (((c : Thread nD τ).loc cc0_scratch1) ↦[(rcvR s).set]{fullShare} f))
      ⊢ (iprop(∃ f : Buf (Elt F) ((c : Thread nD τ).loc cc0_scratch1), ((c : Thread nD τ).loc cc0_scratch1) ↦[(rcvR s).set]{fullShare} f) : sProp 𝕄)
    iintro ⟨%X, %f, -, H⟩; iexists f; iexact H
  · show iprop(∃ f : Buf (Elt F) ((c : Thread nD τ).loc cc0_scratch1), ((c : Thread nD τ).loc cc0_scratch1) ↦[(rcvR s).set]{fullShare} f)
      ⊢ (iprop(∃ X, ∃ f : Buf (Elt F) ((c : Thread nD τ).loc cc0_scratch1), ⌜(rcvM s).view.read (Elt F) f = X⌝ ∗ (((c : Thread nD τ).loc cc0_scratch1) ↦[(rcvR s).set]{fullShare} f)) : sProp 𝕄)
    iintro ⟨%f, H⟩; iexists ((rcvM s).view.read (Elt F) f); iexists f
    isplitr
    rotate_left
    · iexact H
    · ipureintro; rfl
omit [FloatOps F] in
theorem free_eq (c : Dev nD) (p : Fin 2) : free (F := F) c p
    = iprop(∃ f : Buf (Elt F) ((c : Thread nD τ).loc cc0_scratch0), ((c : Thread nD τ).loc cc0_scratch0) ↦[(sndR p).set]{fullShare} f) := by
  unfold free ownsTc owns
  rw [sndM_elems]
  refine BI.equiv_iff.mp ⟨?_, ?_⟩
  · show iprop(∃ X, ∃ f : Buf (Elt F) ((c : Thread nD τ).loc cc0_scratch0), ⌜(sndM p).view.read (Elt F) f = X⌝ ∗ (((c : Thread nD τ).loc cc0_scratch0) ↦[(sndR p).set]{fullShare} f))
      ⊢ (iprop(∃ f : Buf (Elt F) ((c : Thread nD τ).loc cc0_scratch0), ((c : Thread nD τ).loc cc0_scratch0) ↦[(sndR p).set]{fullShare} f) : sProp 𝕄)
    iintro ⟨%X, %f, -, H⟩; iexists f; iexact H
  · show iprop(∃ f : Buf (Elt F) ((c : Thread nD τ).loc cc0_scratch0), ((c : Thread nD τ).loc cc0_scratch0) ↦[(sndR p).set]{fullShare} f)
      ⊢ (iprop(∃ X, ∃ f : Buf (Elt F) ((c : Thread nD τ).loc cc0_scratch0), ⌜(sndM p).view.read (Elt F) f = X⌝ ∗ (((c : Thread nD τ).loc cc0_scratch0) ↦[(sndR p).set]{fullShare} f)) : sProp 𝕄)
    iintro ⟨%f, H⟩; iexists ((sndM p).view.read (Elt F) f); iexists f
    isplitr
    rotate_left
    · iexact H
    · ipureintro; rfl

omit [FloatOps F] in
theorem rcv_split (c : Dev nD) : rcvAny (F := F) c ⊢ bigSep Finset.univ (vacant c) := by
  unfold rcvAny
  iintro ⟨%f, H⟩
  ihave H' := (Entails.of_eq (Ring.pointsTo_blocks (ℓ := (c : Thread nD τ).loc cc0_scratch1) (fun s : Fin 21 => (rcvR s).set) rcv_disjoint rcv_cover f)) $$ H
  iapply (each fun s : Fin 21 => show
      ((((c : Thread nD τ).loc cc0_scratch1) ↦[(rcvR s).set]{fullShare} f) : sProp 𝕄) ⊢ vacant c s from by
        rw [vacant_eq]; iintro H; iexists f; iexact H)
  iexact H'
omit [FloatOps F] in
theorem snd_split (c : Dev nD) : sndAny (F := F) c ⊢ bigSep Finset.univ (free c) := by
  unfold sndAny
  iintro ⟨%f, H⟩
  ihave H' := (Entails.of_eq (Ring.pointsTo_blocks (ℓ := (c : Thread nD τ).loc cc0_scratch0) (fun s : Fin 2 => (sndR s).set) snd_disjoint snd_cover f)) $$ H
  iapply (each fun s : Fin 2 => show
      ((((c : Thread nD τ).loc cc0_scratch0) ↦[(sndR s).set]{fullShare} f) : sProp 𝕄) ⊢ free c s from by
        rw [free_eq]; iintro H; iexists f; iexact H)
  iexact H'

/-- Some contents of the send buffer. -/
theorem nonempty_bf16 {s : Shape} : Nonempty (s.Idx → Elt F .bf16) :=
  ⟨fun _ => Scalar.ofBits .bf16 0#16⟩

theorem rcv_join (c : Dev nD) : bigSep Finset.univ (vacant c) ⊢ rcvAny (F := F) c := by
  rw [bigSep_congr (s := Finset.univ) (fun (s : Fin 21) _ => vacant_eq c s)]
  exact Ring.pointsTo_blocks_join_exists (ℓ := (c : Thread nD τ).loc cc0_scratch1) (fun s : Fin 21 => (rcvR s).set) rcv_disjoint rcv_cover
    (nonempty_bf16 (s := S21x128x256)).some
theorem snd_join (c : Dev nD) : bigSep Finset.univ (free c) ⊢ sndAny (F := F) c := by
  rw [bigSep_congr (s := Finset.univ) (fun (s : Fin 2) _ => free_eq c s)]
  exact Ring.pointsTo_blocks_join_exists (ℓ := (c : Thread nD τ).loc cc0_scratch0) (fun s : Fin 2 => (sndR s).set) snd_disjoint snd_cover
    (nonempty_bf16 (s := S2x128x256)).some

omit [FloatOps F] in
/-- What a device hands its seven partners is the whole of its receive buffer. -/
theorem own_slots (c : Dev nD) :
    (bigSep Finset.univ fun j : Fin 7 => barPay (F := F) (xr j c) j) = bigSep Finset.univ (vacant (F := F) c) := by
  unfold barPay
  rw [← bigSep_univ_prod (fun p : Fin 7 × Fin 3 => vacant (F := F) (xr p.1 (xr p.1 c)) (at_ p.2 p.1)),
    bigSep_univ_equiv at_equiv (vacant (F := F) c)]
  exact bigSep_congr fun p _ => by rw [xr_xr]; rfl

/-! ## What the launch deals is what the body starts from -/

/-- What a device has when its kernel starts, its buffers apart. -/
def start₀ (c : Dev nD) : sProp 𝕄 :=
  iprop(ctx V ∗ mine c ∗ cred (tallyAt (barCell c) () 7) ∗ bigSep Finset.univ fun s : Fin 21 => cred (tallyAt (recvCell c s) () N))

/-- Before the body. -/
def Φ₀ (c : Dev nD) : sProp 𝕄 := iprop(start₀ V c ∗ sndAny c ∗ rcvAny c)
/-- After it. -/
def Φ₁ (c : Dev nD) : sProp 𝕄 :=
  iprop(semVal (barCell c) 0 ∗ (bigSep Finset.univ fun k : Own => semVal ((c : Thread nD τ), ownSem k) 0) ∗ sndAny (F := F) c ∗ rcvAny c)

omit [FloatOps F] in
theorem pre_intro (c : Dev nD) (R : sProp 𝕄) :
    iprop(Φ₀ V c ∗ (∃ W, owes (c : Thread nD τ) (owed c 0) W) ∗ R) ⊢ Pre V c 0 R := by
  unfold Φ₀ start₀ mine Pre
  iintro ⟨⟨⟨#HC, ⟨⟨HaB, HaS, HaV⟩, HtB, HtS, HtV⟩, HcB, HcV⟩, Hs, Hr⟩, HO, HR⟩
  ihave Hs' := (snd_split c) $$ Hs
  ihave Hr' := ((rcv_split c).trans (Entails.of_eq (own_slots c).symm)) $$ Hr
  isplitr; · iexact HC
  isplitl [HaB HcB]
  · isplitl [HaB] <;> iassumption
  isplitl [HO]; · iexact HO
  isplitl [HtB Hr']
  · iapply (show iprop((bigSep Finset.univ fun j : Fin 7 => dutyTok ER (barCell (xr j c)) 0 j) ∗ bigSep Finset.univ fun j : Fin 7 => barPay (F := F) (xr j c) j)
      ⊢ bigSep Finset.univ fun j : Fin 7 => if j.val < 0 then iprop(emp) else barKit (F := F) c j from by
        rw [← bigSep_sep']
        exact bigSep_mono fun j _ => by rw [if_neg (Nat.not_lt_zero _)]; exact BI.Entails.refl _)
    isplitl [HtB] <;> iassumption
  isplitl [Hs']
  · iapply (show bigSep Finset.univ (free (F := F) c) ⊢ bigSep Finset.univ (freeAt c 0) from
      bigSep_mono fun p _ => by unfold freeAt; rw [if_pos (Nat.zero_le _)]; exact BI.Entails.refl _)
    iexact Hs'
  isplitl [HtS HtV HaS]
  · unfold sendStart
    simp only [bigSep_sep']
    isplitl [HtS HtV]
    · isplitl [HtS] <;> iassumption
    iexact HaS
  isplitl [HaV HcV]
  · iapply (show iprop((bigSep Finset.univ fun s : Fin 21 => atPos ER (recvCell c s) 0 ∅ 0) ∗ bigSep Finset.univ fun s : Fin 21 => cred (tallyAt (recvCell c s) () N))
      ⊢ bigSep Finset.univ (recvAt V c 0) from by
        rw [← bigSep_sep']
        exact bigSep_mono fun s _ => by unfold recvAt; rw [if_neg (Nat.not_lt_zero _)]; exact BI.Entails.refl _)
    isplitl [HaV] <;> iassumption
  iexact HR

/-! ## What the body ends in is what the launch takes back -/

theorem late (s : Fin 21) : status 9 21 21 s = if 7 ≤ (rd s).val then 3 else 4 := by revert s; decide
theorem late_slots (r : Fin 9) (h : 7 ≤ r.val) : ∀ s ∈ slots r, 7 ≤ (rd s).val := by revert r; decide
theorem slots_disjoint : Disjoint (slots 8) (slots 7) := by decide

omit [FloatOps F] in
/-- The send side at the end: the semaphores at zero, and the last two operands. -/
theorem send_end (c : Dev nD) : (bigSep Finset.univ fun s => sendAt V c s (status 9 21 21 s))
    ⊢ iprop((bigSep Finset.univ fun s : Fin 21 => semVal (sendCell c s) 0) ∗ bigSep (slots 8) (piece V c) ∗ bigSep (slots 7) (piece V c)) := by
  have h1 : (bigSep Finset.univ fun s => sendAt V c s (status 9 21 21 s))
      = bigSep Finset.univ fun s : Fin 21 => iprop(semVal (sendCell c s) 0 ∗ if 7 ≤ (rd s).val then piece V c s else iprop(emp)) :=
    bigSep_congr fun s _ => by
      rw [late]
      by_cases h : 7 ≤ (rd s).val
      · rw [if_pos h, if_pos h]; rfl
      · rw [if_neg h, if_neg h]; exact (BI.equiv_iff.mp BI.sep_emp).symm
  have h2 (r : Fin 9) (hr : 7 ≤ r.val) : bigSep (slots r) (fun s => if 7 ≤ (rd s).val then piece V c s else iprop(emp)) = bigSep (slots r) (piece V c) :=
    bigSep_congr fun s hs => if_pos (late_slots r hr s hs)
  rw [h1, bigSep_sep', bigSep_part (Finset.subset_univ (slots 8 ∪ slots 7)) (Φ := fun s => if 7 ≤ (rd s).val then piece V c s else iprop(emp)),
    show bigSep (slots 8 ∪ slots 7) (fun s => if 7 ≤ (rd s).val then piece V c s else iprop(emp))
      = iprop(bigSep (slots 8) (fun s => if 7 ≤ (rd s).val then piece V c s else iprop(emp))
        ∗ bigSep (slots 7) (fun s => if 7 ≤ (rd s).val then piece V c s else iprop(emp))) from bigSep_union slots_disjoint, h2 8 (by decide), h2 7 (by decide)]
  iintro ⟨H, ⟨H8, H7⟩, -⟩
  isplitl [H]; · iexact H
  isplitl [H8] <;> iassumption

theorem post_elim (c : Dev nD) (R : sProp 𝕄) :
    St V c 9 21 21 21 R ⊢ iprop(Φ₁ c ∗ (∃ W, owes (c : Thread nD τ) 0 W) ∗ R) := by
  unfold St Φ₁
  rw [recvOwed_end]
  iintro ⟨-, Hb, HO, -, Hs, Hr, HR⟩
  ihave Hs' := (send_end V c) $$ Hs
  icases Hs' with ⟨HzS, H8, H7⟩
  ihave H0 := (collect V c 8) $$ H8
  ihave H1 := (collect V c 7) $$ H7
  ihave Hr' := (show bigSep Finset.univ (recvAt V c 21) ⊢ iprop((bigSep Finset.univ fun s : Fin 21 => semVal (recvCell c s) 0) ∗ bigSep Finset.univ (vacant c)) from by
    rw [← bigSep_sep']
    exact bigSep_mono fun s _ => by
      unfold recvAt filled vacant
      rw [if_pos s.isLt]
      show iprop(semVal (recvCell c s) 0 ∗ (ownsTc c (rcvM s) fullShare (V (rd s) (xr (tm s) c)) : sProp 𝕄))
        ⊢ iprop(semVal (recvCell c s) 0 ∗ ∃ X, (ownsTc c (rcvM s) fullShare X : sProp 𝕄))
      iintro ⟨H1, H2⟩
      isplitl [H1]; · iexact H1
      iexists _; iexact H2) $$ Hr
  icases Hr' with ⟨HzR, Hv⟩
  isplitr [HO HR]
  · isplitl [Hb]; · iexact Hb
    isplitl [HzS HzR]
    · iapply (show iprop((bigSep Finset.univ fun s : Fin 21 => semVal (sendCell c s) 0) ∗ bigSep Finset.univ fun s : Fin 21 => semVal (recvCell c s) 0)
        ⊢ (bigSep Finset.univ fun k : Own => semVal ((c : Thread nD τ), ownSem k) 0 : sProp 𝕄) from
          Entails.of_eq (bigSep_univ_sum (fun k : Own => (semVal ((c : Thread nD τ), ownSem k) 0 : sProp 𝕄))).symm)
      isplitl [HzS]; · iexact HzS
      iexact HzR
    isplitl [H0 H1]
    · iapply (snd_join c)
      iapply (show iprop(free (F := F) c 0 ∗ free c 1) ⊢ bigSep Finset.univ (free c) from
        Entails.of_eq (bigSep_univ_eq_bigSepL [0, 1] (by decide) (by decide) (free (F := F) c)).symm)
      isplitl [H0]; · iexact H0
      iexact H1
    iapply (rcv_join c); iexact Hv
  isplitl [HO]; · iexact HO
  iexact HR

/-! ## The data of the run -/

section Run

variable (m : (ℓ : Loc nD τ sig) → Buf (Elt F) ℓ) (ρ : Dev nD → PrngReg)

/-- The operands each device finds in its memory. -/
def ops (c : Dev nD) : Operands F where
  x := (win0_0.blk (0 : Fin 1)).view.read (Elt F) (m ((c : Thread nD τ).loc main_arg0))
  in0 := (win0_1.blk (0 : Fin 1)).view.read (Elt F) (m ((c : Thread nD τ).loc main_arg1))
  out0 := (win0_2.blk (0 : Fin 1)).view.read (Elt F) (m ((c : Thread nD τ).loc main_arg4))
  in1 := (win0_3.blk (0 : Fin 1)).view.read (Elt F) (m ((c : Thread nD τ).loc main_arg2))
  out1 := (win0_4.blk (0 : Fin 1)).view.read (Elt F) (m ((c : Thread nD τ).loc main_arg5))
  in2 := (win0_5.blk (0 : Fin 1)).view.read (Elt F) (m ((c : Thread nD τ).loc main_arg3))
  out2 := (win0_6.blk (0 : Fin 1)).view.read (Elt F) (m ((c : Thread nD τ).loc main_arg6))

/-- What is sent, of the devices' memories. -/
abbrev VV : Fin 9 → Dev nD → FVec F S128x256 .bf16 := sent (ops m)

def dats (_ : Fin 1) (c : Dev nD) : Dat τ (Elt F) Unit ℕ UU ℕ cfg0 c where
  A w := m ((cfg0.win w).arr.view.loc (c : Thread nD τ))
  after w _ := match w with
    | ⟨0, _⟩ => (ops m c).x
    | ⟨1, _⟩ => (ops m c).in0
    | ⟨2, _⟩ => (ops m c).out0
    | ⟨3, _⟩ => (ops m c).in1
    | ⟨4, _⟩ => (ops m c).out1
    | ⟨5, _⟩ => (ops m c).in2
    | ⟨6, _⟩ => (ops m c).out2
    | ⟨7, _⟩ => outcome (ops m) c
  Φ t := match t with
    | ⟨0, _⟩ => Φ₀ (VV m) c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = ((c : Thread nD τ).loc b) ↦{fullShare} X := by
  unfold owns; simp only [Memref.view_whole, View.read_whole, View.set_whole]
  refine BI.equiv_iff.mp ⟨?_, ?_⟩
  · show iprop(∃ f : Buf (Elt F) ((c : Thread nD τ).loc b), ⌜f = X⌝ ∗ (((c : Thread nD τ).loc b) ↦{fullShare} f)) ⊢ (((c : Thread nD τ).loc b) ↦{fullShare} X : sProp 𝕄)
    iintro ⟨%f, %h, H⟩; rw [← h]; iexact H
  · show (((c : Thread nD τ).loc b) ↦{fullShare} X : sProp 𝕄) ⊢ iprop(∃ f : Buf (Elt F) ((c : Thread nD τ).loc b), ⌜f = X⌝ ∗ (((c : Thread nD τ).loc b) ↦{fullShare} f))
    iintro H; iexists X; isplitr
    rotate_left
    · iexact H
    · ipureintro; rfl

/-- A staging buffer of device `c`, whole. -/
abbrev stg (c : Dev nD) (b : Ref sig .tc) (X : b.ty.Contents (Elt F)) : sProp 𝕄 := owns (c : Thread nD τ) (Memref.whole b) fullShare X

def bodyPre (c : Dev nD) : sProp 𝕄 :=
  iprop(Φ₀ (VV m) c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))

def bodyPost (c : Dev nD) : sProp 𝕄 :=
  iprop(Φ₁ c ∗ (dats m 0 c).owesAt () t0_0.succ
    ∗ stg c cc0_stg0_0 (ops m c).x ∗ stg c cc0_stg1_0 (ops m c).in0 ∗ stg c cc0_stg2_0 (ops m c).out0
    ∗ stg c cc0_stg3_0 (ops m c).in1 ∗ stg c cc0_stg4_0 (ops m c).out1 ∗ stg c cc0_stg5_0 (ops m c).in2
    ∗ stg c cc0_stg6_0 (ops m c).out2 ∗ stg c cc0_stg7_0 (outcome (ops m) c))

theorem before_0 (c : Dev nD) (d) : (dats m 0 c).before (0 : Fin 8) t0_0 d = (ops m c).x := by
  unfold Dat.before; rw [if_pos (fetch0_0 t0_0)]; rfl
theorem before_1 (c : Dev nD) (d) : (dats m 0 c).before (1 : Fin 8) t0_0 d = (ops m c).in0 := by
  unfold Dat.before; rw [if_pos (fetch0_1 t0_0)]; rfl
theorem before_2 (c : Dev nD) (d) : (dats m 0 c).before (2 : Fin 8) t0_0 d = (ops m c).out0 := by
  unfold Dat.before; rw [if_pos (fetch0_2 t0_0)]; rfl
theorem before_3 (c : Dev nD) (d) : (dats m 0 c).before (3 : Fin 8) t0_0 d = (ops m c).in1 := by
  unfold Dat.before; rw [if_pos (fetch0_3 t0_0)]; rfl
theorem before_4 (c : Dev nD) (d) : (dats m 0 c).before (4 : Fin 8) t0_0 d = (ops m c).out1 := by
  unfold Dat.before; rw [if_pos (fetch0_4 t0_0)]; rfl
theorem before_5 (c : Dev nD) (d) : (dats m 0 c).before (5 : Fin 8) t0_0 d = (ops m c).in2 := by
  unfold Dat.before; rw [if_pos (fetch0_5 t0_0)]; rfl
theorem before_6 (c : Dev nD) (d) : (dats m 0 c).before (6 : Fin 8) t0_0 d = (ops m c).out2 := by
  unfold Dat.before; rw [if_pos (fetch0_6 t0_0)]; rfl

omit [FloatOps F] in
/-- The operand buffers one by one. -/
theorem held_eq (c : Dev nD) (D : Operands F) (o : FVec F S128x128 .f32) : Held c D o
    = iprop((stg c cc0_stg0_0 D.x ∗ stg c cc0_stg1_0 D.in0 ∗ stg c cc0_stg2_0 D.out0 ∗ stg c cc0_stg3_0 D.in1
      ∗ stg c cc0_stg4_0 D.out1 ∗ stg c cc0_stg5_0 D.in2 ∗ stg c cc0_stg6_0 D.out2) ∗ stg c cc0_stg7_0 o) := by
  unfold stg
  simp only [owns_whole_eq]
  exact congrArg (fun P : sProp 𝕄 => iprop(P ∗ ((c : Thread nD τ).loc cc0_stg7_0) ↦{fullShare} o))
    (bigSep_univ_eq_bigSepL [0, 1, 2, 3, 4, 5, 6] (by decide) (by decide) (held c D))

set_option maxRecDepth 65536 in
/-- The body on device `c`, from what the pipeline gives it to what it takes back. -/
theorem sound_body (c : Dev nD) :
    bodyPre m c ⊢ wp frame (wpE (defs₀ (F := F)) 𝒱₀ c none) Set.univ (bodyAt0 t0_0) (fun _ => bodyPost m c) := by
  unfold bodyPre
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0, before_1, before_2, before_3, before_4, before_5, before_6]
  unfold Dat.owesAt Pipeline.owesWithin
  icases Ho with ⟨%W, %hW, HO⟩
  iapply (show Pre (sent (ops m)) c 0 (Held c (ops m c) ((dats m 0 c).before (7 : Fin 8) t0_0 d7))
      ⊢ wp frame (wpE (defs₀ (F := F)) 𝒱₀ c none) Set.univ (bodyAt0 t0_0) (fun _ => bodyPost m c) from
    body_run (X := ops m) (c := c) (o := (dats m 0 c).before (7 : Fin 8) t0_0 d7) (by
      refine (post_elim (VV m) c _).trans ?_
      rw [held_eq]
      unfold bodyPost Dat.owesAt Pipeline.owesWithin
      iintro ⟨HΦ, ⟨%W, HO⟩, ⟨H0, H1, H2, H3, H4, H5, H6⟩, H7⟩
      isplitl [HΦ]; · iexact HΦ
      isplitl [HO]
      · iexists W
        isplitr; · ipureintro; exact fun _ _ => Or.inl trivial
        iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7))
  iapply (pre_intro (VV m) c (Held c (ops m c) ((dats m 0 c).before (7 : Fin 8) t0_0 d7)))
  rw [held_eq]
  isplitl [HΦ]; · iexact HΦ
  isplitl [HO]; · iexists W; iexact HO
  isplitr [H7]
  · isplitl [H0]; · iexact H0
    isplitl [H1]; · iexact H1
    isplitl [H2]; · iexact H2
    isplitl [H3]; · iexact H3
    isplitl [H4]; · iexact H4
    isplitl [H5]; · iexact H5
    iexact H6
  iexact H7

set_option maxRecDepth 65536 in
/-- The library's obligation for the body. -/
theorem body_obligation (c : Dev nD) : BodyObligation (dats (F := F) m 0 c) (defs₀ (F := F)) 𝒱₀ () Set.univ := fun t => by
  rw [fin_N0 t]
  rw [bigSep_W0, bigSep_W0]
  exact sound_body m c

/-! ## The launch -/

theorem ownSemFacts : Pipeline.OwnSemFacts cfg0.spec ownSem := by decide

theorem share_eq (c : Dev nD) (w : Fin cfg0.W) : (dats m 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' V c)
      ⊢ |={Set.univ}=> iprop(start₀ V c ∗ emp) := by
  iintro ⟨-, Hlev, Hcr, -, HG⟩
  ihave Hc := (creds (F := F) c) $$ Hcr
  icases Hc with ⟨HB, HN⟩
  imodintro
  unfold start₀ ctx G' everyCell
  icases HG with ⟨⟨H1, H2, H3⟩, Hm⟩
  isplitl
  · isplitl [H1 H2 H3 Hlev]
    · isplitl [H1]; · iexact H1
      isplitl [H2]; · iexact H2
      isplitl [H3] <;> iassumption
    isplitl [Hm]; · iexact Hm
    isplitl [HB] <;> iassumption
  · iempintro

theorem phi0_intro (c : Dev nD) :
    iprop(start₀ (VV m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (VV m) c from rfl, scopedRest0_eq]
  unfold Φ₀ sndAny rcvAny
  iintro ⟨Hs, -, H1, H2⟩
  isplitl [Hs]; · iexact Hs
  isplitl [H1] <;> iassumption

theorem phi1_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = Φ₁ c from rfl, scopedRest0_eq, unscopedSems0_eq]
  unfold Φ₁ sndAny rcvAny Pipeline.ownSems0
  iintro ⟨Hb, Ho, H1, H2⟩
  isplitl [Hb]; · iexact Hb
  isplitl [Ho]; · iexact Ho
  isplitl [H1] <;> iassumption

theorem stage_low (w : Fin cfg0.W) (s : Fin (cfg0.spec w).nbuf) : asRecv (.dma ((cfg0.spec w).sem s)) = none := by
  revert w s; decide

theorem waits (c : Dev nD) : (levAts L lv : sProp 𝕄) ⊢ Pipeline.cellsWaits cfgs (dats m) () 0 c :=
  Pipeline.cellsWaits_intro cfgs (dats m) () 0 c fun w s t =>
    mayWait_low c _ (stage_low w s) _ (by
      rcases t with ⟨_ | _, ht⟩
      · intro g u hg
        rcases owed_pos (show 0 < owed c 0 g u from hg) with ⟨t, e⟩ | ⟨j, -, e⟩
        · exact Or.inl ⟨_, _, e⟩
        · exact Or.inr ⟨_, e⟩
      · intro g u hg
        exact absurd (show 0 < (0 : CellTallies nD τ sig Unit) g u from hg) (Nat.lt_irrefl 0))

/-- What the arrays hold at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory, with all counters at zero, every fair execution of the program on its 32 devices ends, and in
    every end the arrays hold `finalA` and all counters are zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (VV m)) (G' := G' (VV m)) (u₀ := u₀)
    (hu₀ := by
      unfold u₀
      iintro Hu
      ihave H := (ownU_pair _ _) $$ Hu
      icases H with ⟨HP, HX⟩
      imod (fund (VV m)) $$ HX with HG
      imodintro
      isplitl [HP] <;> iassumption)
    (hglob := glob (VV m))
    (hA := fun _ _ => rfl) (hpf := fun _ k => k.elim0)
    (X := start₀ (VV m)) (Y := fun c => unscopedSems0 c) (Z := fun _ => iprop(emp))
    (hX := start_intro (VV m) m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand array holds at the end what it held at the start. -/
theorem final_in (c : Dev nD) (w : Fin cfg0.W) (h : (cfg0.win w).isOut = false) :
    finalA m c w = m ((cfg0.win w).arr.view.loc (c : Thread nD τ)) :=
  (dats (F := F) m 0 c).arrAt_in w h _

end Run

end Cert.AllReduce

end
-- ==== Proof.Frames.lean ====
/-
# The frames

Every program of the certificate terminates without a fault, its operands end as they began, and every semaphore counter
ends at zero.  The kernel's two programs have one text, so one run serves both; the reference declares no semaphore.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option Elab.async false

noncomputable section

namespace Cert.AllReduce

open Cert.KernelIdeal Cert.KernelIdeal.Gen
open Idealize.ShloMosaic
open Idealize.ShloMosaic.TcCoe
open Idealize.SL.Sem

/-- From the run's account of the eight windows, device `c`'s seven operand arrays hold what they held at the start. -/
theorem operands_kept {F : FTy → Type} [FloatOps F] (m : (ℓ : Loc nD τ sig) → Buf (Elt F) ℓ)
    (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have kept := fun (w : Fin 8) (e : (cfg0.win w).isOut = false) => (h c w).trans (final_in m c w e)
  ⟨kept 0 rfl, kept 1 rfl, kept 3 rfl, kept 5 rfl, kept 2 rfl, kept 4 rfl, kept 6 rfl⟩

/-- The idealized kernel terminates without a fault from every memory, keeps its operands and ends with its counters at
zero. -/
theorem frame_kernelIdeal : Cert.quiescent_KernelIdeal := fun m ρ _ =>
  (θ_run Cert.KernelIdeal.defs _ _).mono (fun r h => ⟨operands_kept m r h.1, h.2⟩) (run_main (F := Ideal) m ρ)

/-- The two programs' kernel bodies are one text, so their tables of bodies are equal. -/
theorem bodies_same : Cert.Kernel.defs₀ (F := Bits) = Cert.KernelIdeal.defs₀ := by
  unfold Cert.Kernel.defs₀ Cert.KernelIdeal.defs₀
  refine congrArg Defs.onTc ?_
  funext l a
  match l with
  | 0 => rfl

/-- Hence the whole tables, with the pipeline around the body, are equal. -/
theorem tables_same : Cert.Kernel.defs (F := Bits) = Cert.KernelIdeal.defs :=
  congrArg (Pipeline.defs Cert.Kernel.pcfgs) bodies_same

/-- The printed kernel terminates, keeps its operands and lowers its counters, too: its text is the idealized kernel's,
read at bit patterns. -/
theorem frame_kernel : Cert.quiescent_Kernel := by
  intro m ρ _
  rw [tables_same]
  exact (θ_run Cert.KernelIdeal.defs _ _).mono (fun r h => ⟨operands_kept (F := Bits) m r h.1, h.2⟩)
    (run_main (F := Bits) m ρ)

/-- The reference terminates, keeps its operands, and has no semaphore to leave raised. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.AllReduce

end
-- ==== Proof.Sums.lean ====
/-
# The rounds of one sum reach every device once

In the three rounds of a sum a device adds what its partners hold.  Followed back to the devices' own shares, the sum has
`4 * 2 * 4` terms, and the devices they come from are the 32 devices, each once.  At the exact values a change of format
changes nothing, so what a device holds after the rounds is the sum of all devices' shares.
-/
module

public import proofs.«01_k».proof.Proof.Body
public import Idealize.ShloMosaic.PureOps.Ideal.Laws

@[expose] public section

noncomputable section

namespace Cert.AllReduce

open Cert.KernelIdeal Cert.KernelIdeal.Gen
open Idealize.ShloMosaic
open scoped BigOperators

/-- The device itself and its partners `i`, `j`, `k`. -/
def near (i j k : Fin 7) (s : Fin 4) (c : Dev nD) : Dev nD :=
  match s with
  | 0 => c
  | 1 => xr i c
  | 2 => xr j c
  | 3 => xr k c

/-- The device itself and its partner `i`. -/
def beside (i : Fin 7) (s : Fin 2) (c : Dev nD) : Dev nD :=
  match s with
  | 0 => c
  | 1 => xr i c

/-- Where the term of a sum with the choices `p` comes from: a choice in each of the three rounds. -/
def origin (c : Dev nD) (p : Fin 4 × Fin 2 × Fin 4) : Dev nD :=
  near 0 1 2 p.2.2 (beside 3 p.2.1 (near 4 5 6 p.1 c))

/-- The choices that lead from `c` to `d`: the digits of the exclusive or of their numbers. -/
def choices (c d : Dev nD) : Fin 4 × Fin 2 × Fin 4 :=
  (⟨(c.val ^^^ d.val) / 8 % 4, Nat.mod_lt _ (by decide)⟩, ⟨(c.val ^^^ d.val) / 4 % 2, Nat.mod_lt _ (by decide)⟩,
    ⟨(c.val ^^^ d.val) % 4, Nat.mod_lt _ (by decide)⟩)

/-- They lead there. -/
theorem origin_choices : ∀ c d : Dev nD, origin c (choices c d) = d := by decide +kernel

/-- Every device is the origin of one term and of one only. -/
theorem origin_bijective (c : Dev nD) : Function.Bijective (origin c) :=
  (Fintype.bijective_iff_surjective_and_card _).2 ⟨fun d => ⟨choices c d, origin_choices c d⟩, by decide⟩

/-- A round with three partners adds four devices' values, -/
theorem round3_apply (i j k : Fin 7) (a : Dev nD → FVec Ideal S128x256 .f32) (c : Dev nD) (x : S128x256.Idx) :
    (round3 i j k a c x : EReal) = ∑ s : Fin 4, (a (near i j k s c) x : EReal) := by
  rw [Fin.sum_univ_four]; rfl

/-- a round with one partner two devices', -/
theorem round1_apply (i : Fin 7) (a : Dev nD → FVec Ideal S128x256 .f32) (c : Dev nD) (x : S128x256.Idx) :
    (round1 i a c x : EReal) = ∑ s : Fin 2, (a (beside i s c) x : EReal) := by
  rw [Fin.sum_univ_two]; rfl

/-- and all the rounds together every device's, once each: the sum over all devices. -/
theorem total_apply (a : Dev nD → FVec Ideal S128x256 .f32) (c : Dev nD) (x : S128x256.Idx) :
    (total a c x : EReal) = ∑ d : Dev nD, (a d x : EReal) := by
  unfold total
  rw [round3_apply, ← (origin_bijective c).sum_comp (fun d => (a d x : EReal)), Fintype.sum_prod_type]
  refine Finset.sum_congr rfl fun p _ => ?_
  rw [round1_apply, Fintype.sum_prod_type]
  refine Finset.sum_congr rfl fun q _ => ?_
  rw [round3_apply]
  rfl

end Cert.AllReduce

end
-- ==== Proof.Products.lean ====
/-
# Products of matrices over the extended reals

Matrices as functions of a row and a column.  A product whose inner coordinate is cut into 32 blocks is the sum of the
blocks' products, for any extended reals.  Products of matrices of real numbers associate, so such a sum may have the
block's second and third factor multiplied first.
-/
module

public import Idealize.ShloMosaic.Lib.ValueIdxCore
public import Mathlib.Data.EReal.Operations
public import Mathlib.Data.Matrix.Mul

@[expose] public section

noncomputable section

namespace Cert.AllReduce

open scoped BigOperators

variable {m n k l : ℕ} {α : Type}

/-- Matrices by rows and columns. -/
abbrev Mat (m n : ℕ) (α : Type) := Fin m → Fin n → α

/-- The product. -/
def dot (A : Mat m k EReal) (B : Mat k n EReal) : Mat m n EReal := fun r c => ∑ x, A r x * B x c

/-- The larger of every entry and zero. -/
def relu (A : Mat m n EReal) : Mat m n EReal := fun r c => max (A r c) 0

/-- The place of coordinate `i` of block `c` in the whole. -/
def inBlock (c : Fin 32) (i : Fin 128) : Fin 4096 := ⟨c.val * 128 + i.val, by omega⟩

/-- The columns of block `c`, -/
def cols (c : Fin 32) (A : Mat m 4096 α) : Mat m 128 α := fun r i => A r (inBlock c i)
/-- and the rows. -/
def rows (c : Fin 32) (A : Mat 4096 n α) : Mat 128 n α := fun i => A (inBlock c i)

/-- Every coordinate of the whole lies in a block. -/
theorem inBlock_cover (x : Fin 4096) : inBlock ⟨x.val / 128, by omega⟩ ⟨x.val % 128, by omega⟩ = x :=
  Fin.ext (by show x.val / 128 * 128 + x.val % 128 = x.val; omega)

/-- A sum over the whole is the sum of the blocks' sums. -/
theorem sum_inBlock (f : Fin 4096 → EReal) : ∑ c : Fin 32, ∑ i : Fin 128, f (inBlock c i) = ∑ x, f x := by
  rw [← Fintype.sum_prod_type']
  refine Fintype.sum_bijective (fun p : Fin 32 × Fin 128 => inBlock p.1 p.2) ?_ _ _ fun _ => rfl
  refine (Fintype.bijective_iff_surjective_and_card _).2 ⟨fun x => ?_, ?_⟩
  · exact ⟨(⟨x.val / 128, by omega⟩, ⟨x.val % 128, by omega⟩), inBlock_cover x⟩
  · rw [Fintype.card_prod, Fintype.card_fin, Fintype.card_fin, Fintype.card_fin]

/-- The blocks' products add up to the whole product. -/
theorem sum_dot_blocks (A : Mat m 4096 EReal) (B : Mat 4096 n EReal) (r : Fin m) (j : Fin n) :
    ∑ c, dot (cols c A) (rows c B) r j = dot A B r j :=
  sum_inBlock fun x => A r x * B x j

/-- The product with a block of columns is the block of columns of the product. -/
theorem dot_cols (A : Mat m k EReal) (B : Mat k 4096 EReal) (c : Fin 32) : dot A (cols c B) = cols c (dot A B) := rfl

/-! ## Real matrices -/

/-- A matrix of real numbers among the extended ones. -/
def lift (M : Matrix (Fin m) (Fin n) ℝ) : Mat m n EReal := fun r c => ((M r c : ℝ) : EReal)

/-- A finite sum of reals is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The product of two real matrices is their product as real matrices. -/
theorem dot_lift (A : Matrix (Fin m) (Fin k) ℝ) (B : Matrix (Fin k) (Fin n) ℝ) : dot (lift A) (lift B) = lift (A * B) := by
  funext r c
  show ∑ x, ((A r x : ℝ) : EReal) * ((B x c : ℝ) : EReal) = (((A * B) r c : ℝ) : EReal)
  rw [Matrix.mul_apply, coe_sum]
  exact Finset.sum_congr rfl fun x _ => (EReal.coe_mul _ _).symm

/-- All entries of the matrix are real numbers. -/
def Real (A : Mat m n EReal) : Prop := ∃ M, A = lift M

/-- Matrices without infinite entries are real. -/
theorem Real.of_finite {A : Mat m n EReal} (h : ∀ r c, A r c ≠ ⊤ ∧ A r c ≠ ⊥) : Real A :=
  ⟨fun r c => (A r c).toReal, funext fun r => funext fun c => (EReal.coe_toReal (h r c).1 (h r c).2).symm⟩

/-- Products keep them real, -/
theorem Real.dot {A : Mat m k EReal} {B : Mat k n EReal} : Real A → Real B → Real (dot A B)
  | ⟨M, hM⟩, ⟨N, hN⟩ => ⟨M * N, by rw [hM, hN, dot_lift]⟩

/-- the larger with zero, -/
theorem Real.relu {A : Mat m n EReal} : Real A → Real (relu A)
  | ⟨M, hM⟩ => ⟨fun r c => max (M r c) 0, by
      subst hM; funext r c
      exact (EReal.coe_strictMono.monotone.map_max (a := M r c) (b := 0)).symm⟩

/-- blocks of columns, -/
theorem Real.cols {A : Mat m 4096 EReal} (c : Fin 32) : Real A → Real (cols c A)
  | ⟨M, hM⟩ => ⟨fun r i => M r (inBlock c i), by subst hM; rfl⟩

/-- and blocks of rows. -/
theorem Real.rows {A : Mat 4096 n EReal} (c : Fin 32) : Real A → Real (rows c A)
  | ⟨M, hM⟩ => ⟨fun i => M (inBlock c i), by subst hM; rfl⟩

/-- Products of real matrices associate. -/
theorem dot_assoc {A : Mat m k EReal} {B : Mat k l EReal} {C : Mat l n EReal} :
    Real A → Real B → Real C → dot A (dot B C) = dot (dot A B) C
  | ⟨L, hL⟩, ⟨M, hM⟩, ⟨N, hN⟩ => by rw [hL, hM, hN, dot_lift, dot_lift, dot_lift, dot_lift, Matrix.mul_assoc]

/-- The sum over the blocks of a matrix times the block's product is the product of the three whole matrices, in their
    order, when all are real. -/
theorem sum_dot_fused {H : Mat m k EReal} {A : Mat k 4096 EReal} {B : Mat 4096 n EReal} (hH : Real H) (hA : Real A)
    (hB : Real B) (r : Fin m) (j : Fin n) :
    ∑ c, dot H (dot (cols c A) (rows c B)) r j = dot (dot H A) B r j := by
  rw [← sum_dot_blocks]
  refine Finset.sum_congr rfl fun c _ => ?_
  rw [dot_assoc hH (hA.cols c) (hB.rows c), dot_cols]

end Cert.AllReduce

end
-- ==== Proof.Value.lean ====
/-
# The kernel's result and the reference's, as products of matrices

At the exact values the kernel's products, its larger-than-zero and its changes of format are those of the matrices of
their entries.  Each layer's sum over the devices is then the product of whole matrices, and a device's result is its
columns of the reference's.
-/
module

public import proofs.«01_k».proof.Proof.Sums
public import proofs.«01_k».proof.Proof.Products
public import Idealize.ShloMosaic.Lib.MatmulPlain
public import Idealize.ShloMosaic.Lib.StackMember
public import Idealize.ShloMosaic.Lib.IdealHost
public import Idealize.ShloMosaic.Lib.Layout

@[expose] public section

noncomputable section

namespace Cert.AllReduce

open Cert.KernelIdeal Cert.KernelIdeal.Gen
open Idealize.ShloMosaic
open Idealize.ShloMosaic.ValueIdx
open scoped BigOperators

variable {m n k : ℕ} {φ ψ : FTy}

/-- An array of two axes as a matrix. -/
def entries (v : FVec Ideal ⟨2, ![m, n]⟩ φ) : Mat m n EReal := fun r c => v (ix2 r c)

/-- Arrays with the same entries are equal. -/
theorem entries_inj {v w : FVec Ideal ⟨2, ![m, n]⟩ φ} (h : entries v = entries w) : v = w := by
  funext i
  rw [eq_ix2 i]
  exact congrFun (congrFun h _) _

/-- A product in the kernel, onto zeros. -/
theorem entries_matmul (p : FVec Ideal ⟨2, ![m, k]⟩ φ) (q : FVec Ideal ⟨2, ![k, n]⟩ ψ) :
    entries (matmul (DotDims.plain m k n) none p q (constant ⟨2, ![m, n]⟩ .f32 0x00000000#32)) = dot (entries p) (entries q) := by
  funext r c
  refine (Ideal.matmul_plain_apply none p q _ r c).trans ?_
  show Ideal.ofBits .f32 0x00000000#32 + _ = _
  rw [Ideal.ofBits_zero_f32, zero_add]
  rfl

/-- A product in the reference. -/
theorem entries_dotGeneral (p : FVec Ideal ⟨2, ![m, k]⟩ φ) (q : FVec Ideal ⟨2, ![k, n]⟩ ψ) :
    entries (Host.dotGeneral (DotDims.plain m k n) none p q) = dot (entries p) (entries q) :=
  funext fun r => funext fun c => StackMember.dotGeneral_plain_apply none p q r c

/-- What a hidden layer hands on is the larger of the sum and zero. -/
theorem entries_hidden (a : FVec Ideal S128x256 .f32) : entries (hidden a) = relu (entries a) := by
  funext r c
  show max (a (ix2 r c)) (Ideal.ofBits .f32 0x00000000#32) = max (a (ix2 r c)) 0
  rw [Ideal.ofBits_zero_f32]

/-- The reference's, too. -/
theorem entries_maximumf (a : FVec Ideal S128x256 .bf16) (h : S_.BroadcastsInDim S128x256 ![]) :
    entries (maximumf a (broadcastInDim S128x256 ![] h (constant S_ .bf16 0x0000#16))) = relu (entries a) := by
  funext r c
  show max (a (ix2 r c)) (broadcastInDim S128x256 ![] h (constant S_ .bf16 0x0000#16) (ix2 r c)) = max (a (ix2 r c)) 0
  rw [broadcastInDim_scalar_apply]
  show max (a (ix2 r c)) (Ideal.ofBits .bf16 0x0000#16) = max (a (ix2 r c)) 0
  rw [Ideal.ofBits_zero_bf16]

/-- A block of columns of an array. -/
theorem entries_block_cols (v : FVec Ideal ⟨2, ![m, 4096]⟩ φ) (c : Fin 32) (h : Layout.Tiles ⟨2, ![m, 128]⟩ ⟨2, ![m, 4096]⟩ 1 32) :
    entries (φ := φ) (Layout.block ⟨2, ![m, 128]⟩ ⟨2, ![m, 4096]⟩ 1 32 c v h) = cols c (entries v) := by
  funext r i
  refine congrArg v (funext fun a => Fin.ext ?_)
  match a with
  | ⟨0, _⟩ => exact (Layout.idx_cols_val h c (ix2 r i)).1
  | ⟨1, _⟩ => exact (Layout.idx_cols_val h c (ix2 r i)).2

/-- A block of rows. -/
theorem entries_block_rows (v : FVec Ideal ⟨2, ![4096, n]⟩ φ) (c : Fin 32) (h : Layout.Tiles ⟨2, ![128, n]⟩ ⟨2, ![4096, n]⟩ 0 32) :
    entries (φ := φ) (Layout.block ⟨2, ![128, n]⟩ ⟨2, ![4096, n]⟩ 0 32 c v h) = rows c (entries v) := by
  funext i j
  refine congrArg v (funext fun a => Fin.ext ?_)
  match a with
  | ⟨0, _⟩ => exact (Layout.idx_rows_val h c (ix2 i j)).1
  | ⟨1, _⟩ => exact (Layout.idx_rows_val h c (ix2 i j)).2

/-- The whole operands, as matrices. -/
structure Whole where
  x : Mat 128 4096 EReal
  in0 : Mat 4096 256 EReal
  in1 : Mat 4096 256 EReal
  in2 : Mat 4096 256 EReal
  out0 : Mat 256 4096 EReal
  out1 : Mat 256 4096 EReal
  out2 : Mat 256 4096 EReal

namespace Whole

variable (W : Whole)

/-- The first layer's hidden sum, -/
def sum0 : Mat 128 256 EReal := dot W.x W.in0
/-- the second's, -/
def sum1 : Mat 128 256 EReal := dot (dot (relu W.sum0) W.out0) W.in1
/-- the third's, -/
def sum2 : Mat 128 256 EReal := dot (dot (relu W.sum1) W.out1) W.in2
/-- and the result. -/
def result : Mat 128 4096 EReal := dot (relu W.sum2) W.out2

/-- The operands that are multiplied out of order are matrices of real numbers; the last layer's second weights need not
    be. -/
structure Finite : Prop where
  x : Real W.x
  in0 : Real W.in0
  in1 : Real W.in1
  in2 : Real W.in2
  out0 : Real W.out0
  out1 : Real W.out1

/-- Every device's operands are its blocks of the whole ones. -/
structure Cut (X : Dev nD → Operands Ideal) : Prop where
  x : ∀ c, entries (X c).x = cols c W.x
  in0 : ∀ c, entries (X c).in0 = rows c W.in0
  in1 : ∀ c, entries (X c).in1 = rows c W.in1
  in2 : ∀ c, entries (X c).in2 = rows c W.in2
  out0 : ∀ c, entries (X c).out0 = cols c W.out0
  out1 : ∀ c, entries (X c).out1 = cols c W.out1
  out2 : ∀ c, entries (X c).out2 = cols c W.out2

end Whole

/-- The entries after the rounds of a sum are the sums of the devices' entries. -/
theorem entries_total (a : Dev nD → FVec Ideal S128x256 .f32) (c : Dev nD) (r : Fin 128) (j : Fin 256) :
    entries (total a c) r j = ∑ d : Dev nD, entries (a d) r j :=
  total_apply a c (ix2 r j)

/-- A device's share of a later layer's sum: the hidden layer times the product of the device's two weights. -/
theorem entries_layer (p : FVec Ideal S256x128 .bf16) (q : FVec Ideal S128x256 .bf16) (a : FVec Ideal S128x256 .f32) :
    entries (layer (fuse p q) a) = dot (relu (entries a)) (dot (entries p) (entries q)) := by
  refine (entries_matmul (hidden a) (fuse p q)).trans ?_
  rw [entries_hidden]
  exact congrArg _ (entries_matmul p q)

/-- If all devices hold a real matrix as the sum of one layer, their shares of the next, added up, are that layer's sum
    with whole weights. -/
theorem entries_next {H : Mat 128 256 EReal} {O : Mat 256 4096 EReal} {I : Mat 4096 256 EReal} {a : Dev nD → FVec Ideal S128x256 .f32}
    {p : Dev nD → FVec Ideal S256x128 .bf16} {q : Dev nD → FVec Ideal S128x256 .bf16} (hH : Real H) (hO : Real O) (hI : Real I)
    (ha : ∀ c, entries (a c) = H) (hp : ∀ c, entries (p c) = cols c O) (hq : ∀ c, entries (q c) = rows c I) (c : Dev nD) :
    entries (total (fun d => layer (fuse (p d) (q d)) (a d)) c) = dot (dot (relu H) O) I := by
  funext r j
  rw [entries_total, ← sum_dot_fused hH.relu hO hI r j]
  refine Finset.sum_congr rfl fun d _ => ?_
  rw [entries_layer, ha, hp, hq]

section
variable {W : Whole} {X : Dev nD → Operands Ideal} (cut : W.Cut X) (fin : W.Finite)
include cut

/-- All devices hold the first layer's sum, -/
theorem entries_sum0 (c : Dev nD) : entries (total (share0 X) c) = W.sum0 := by
  funext r j
  rw [entries_total]
  refine (Finset.sum_congr rfl fun d _ => ?_).trans (sum_dot_blocks W.x W.in0 r j)
  rw [show entries (share0 X d) = dot (entries (X d).x) (entries (X d).in0) from entries_matmul _ _, cut.x, cut.in0]

include fin

/-- the second's, -/
theorem entries_sum1 (c : Dev nD) : entries (total (share1 X) c) = W.sum1 :=
  entries_next (fin.x.dot fin.in0) fin.out0 fin.in1 (entries_sum0 cut) cut.out0 cut.in1 c

/-- the third's, -/
theorem entries_sum2 (c : Dev nD) : entries (total (share2 X) c) = W.sum2 :=
  entries_next (((fin.x.dot fin.in0).relu.dot fin.out0).dot fin.in1) fin.out1 fin.in2 (entries_sum1 cut fin) cut.out1 cut.in2 c

/-- and of the result each its columns. -/
theorem entries_outcome (c : Dev nD) : entries (outcome X c) = cols c W.result := by
  refine (entries_matmul (hidden (total (share2 X) c)) (X c).out2).trans ?_
  rw [entries_hidden, entries_sum2 cut fin, cut.out2]
  rfl

end

end Cert.AllReduce

end
-- ==== Proof.Finite.lean ====
/-
# What the precondition says

The precondition compares the size of every entry of a device's blocks with infinity and asks that all comparisons hold.
At the exact values it says that no entry is infinite; asked of every device, it says so of the whole arrays.
-/
module

public import proofs.«01_k».proof.Proof.Value
public import proofs.«01_k».proof.Pre_finite_KernelIdeal
public import proofs.«01_k».proof.Proof.Gen.Pre_finite_KernelIdeal
public import Idealize.ShloMosaic.Lib.ReduceAll

@[expose] public section

noncomputable section

namespace Cert.AllReduce

open Cert.KernelIdeal
open Idealize.ShloMosaic
open Idealize.ShloMosaic.ValueIdx

/-- The bound of the comparisons is infinity. -/
theorem bound_top : Ideal.ofBits .bf16 0x7F80#16 = ⊤ := by simp [Ideal.ofBits, Ideal.ieee]

/-- A number of a size below infinity is not infinite. -/
theorem finite_of_size {x : EReal} (h : Ideal.cmp .olt (max x (-x)) (Ideal.ofBits .bf16 0x7F80#16) = 1#1) : x ≠ ⊤ ∧ x ≠ ⊥ := by
  rw [bound_top] at h
  have lt : max x (-x) < ⊤ := by
    by_contra no
    simp [Ideal.cmp, no] at h
  constructor
  · rintro rfl; simp at lt
  · rintro rfl; simp at lt

/-- Two truth values whose conjunction is true are both true. -/
theorem both {a b : IVec S_ 1} (h : andi a b ix0 = 1#1) : a ix0 = 1#1 ∧ b ix0 = 1#1 := IntOp.andi_eq_one.1 h

instance : Subsingleton S_.Idx := ⟨fun a b => funext fun i => i.elim0⟩

/-- One array's test, passed, says that none of its entries is infinite. -/
theorem finite_of_test {m n : ℕ} {v : FVec Ideal ⟨2, ![m, n]⟩ .bf16} {hb : S_.BroadcastsInDim ⟨2, ![m, n]⟩ ![]}
    {hr : (⟨2, ![m, n]⟩ : Shape).ReducesTo [0, 1] S_} {hn : 0 < S_.numel}
    (h : Host.reduce IntOp.andi (cmpf .olt (Host.absf v) (broadcastInDim ⟨2, ![m, n]⟩ ![] hb (constant S_ .bf16 0x7F80#16)))
      (constantI S_ 1 1#1) hr hn ix0 = 1#1) (r : Fin m) (j : Fin n) : entries v r j ≠ ⊤ ∧ entries v r j ≠ ⊥ := by
  have one : Ideal.cmp .olt (max (v (ix2 r j)) (-(v (ix2 r j))))
      (broadcastInDim ⟨2, ![m, n]⟩ ![] hb (constant (F := Ideal) S_ .bf16 0x7F80#16) (ix2 r j)) = 1#1 :=
    Host.reduce_andi_all _ _ hr hn ix0 h (ix2 r j)
  rw [broadcastInDim_scalar_apply] at one
  exact finite_of_size one

/-- All entries of a matrix are finite. -/
def NoInf {m n : ℕ} (A : Mat m n EReal) : Prop := ∀ r j, A r j ≠ ⊤ ∧ A r j ≠ ⊥

/-- The precondition, of one device's blocks: the entries of the first six are finite. -/
theorem finite_of_pre (x : FVec Ideal S128x128 .bf16) (in0 in1 in2 : FVec Ideal S128x256 .bf16) (out0 out1 out2 : FVec Ideal S256x128 .bf16)
    (h : Cert.Pre_finite_KernelIdeal.fn (F := Ideal) x in0 in1 in2 out0 out1 out2 = fun _ => 1#1) :
    NoInf (entries x) ∧ NoInf (entries in0) ∧ NoInf (entries in1) ∧ NoInf (entries in2) ∧ NoInf (entries out0) ∧ NoInf (entries out1) := by
  have h := congrFun h ix0
  obtain ⟨h, h5⟩ := both h
  obtain ⟨h, h4⟩ := both h
  obtain ⟨h, h3⟩ := both h
  obtain ⟨h, h2⟩ := both h
  obtain ⟨h0, h1⟩ := both h
  exact ⟨finite_of_test h0, finite_of_test h1, finite_of_test h2, finite_of_test h3, finite_of_test h4, finite_of_test h5⟩

/-- A matrix whose blocks of columns are all finite is real, -/
theorem real_of_cols {m : ℕ} {A : Mat m 4096 EReal} (h : ∀ c, NoInf (cols c A)) : Real A :=
  Real.of_finite fun r x => by
    have := h ⟨x.val / 128, by omega⟩ r ⟨x.val % 128, by omega⟩
    rwa [cols, inBlock_cover] at this

/-- and so is one whose blocks of rows are. -/
theorem real_of_rows {n : ℕ} {A : Mat 4096 n EReal} (h : ∀ c, NoInf (rows c A)) : Real A :=
  Real.of_finite fun x j => by
    have := h ⟨x.val / 128, by omega⟩ ⟨x.val % 128, by omega⟩ j
    rwa [rows, inBlock_cover] at this

/-- If the blocks of every device meet the precondition, the whole operands are real but for the last. -/
theorem Whole.Cut.finite {W : Whole} {X : Dev nD → Operands Ideal} (cut : W.Cut X)
    (h : ∀ c, Cert.Pre_finite_KernelIdeal.fn (F := Ideal) (X c).x (X c).in0 (X c).in1 (X c).in2 (X c).out0 (X c).out1 (X c).out2 = fun _ => 1#1) :
    W.Finite := by
  have f := fun c => finite_of_pre _ _ _ _ _ _ _ (h c)
  exact {
    x := real_of_cols fun c => cut.x c ▸ (f c).1
    in0 := real_of_rows fun c => cut.in0 c ▸ (f c).2.1
    in1 := real_of_rows fun c => cut.in1 c ▸ (f c).2.2.1
    in2 := real_of_rows fun c => cut.in2 c ▸ (f c).2.2.2.1
    out0 := real_of_cols fun c => cut.out0 c ▸ (f c).2.2.2.2.1
    out1 := real_of_cols fun c => cut.out1 c ▸ (f c).2.2.2.2.2 }

end Cert.AllReduce

end
-- ==== Proof.Algebraic.lean ====
/-
# The kernel computes what the reference computes

From memories that hold the reference's arrays in blocks, the kernel's run on 32 devices ends with the blocks of the
reference's result, when the blocks meet the precondition.
-/
module

public import proofs.«01_k».proof.Proof.Frames
public import proofs.«01_k».proof.Proof.Finite

@[expose] public section

set_option Elab.async false

noncomputable section

namespace Cert.AllReduce

open Cert.KernelIdeal Cert.KernelIdeal.Gen
open Idealize.ShloMosaic
open Idealize.ShloMosaic.TcCoe
open Idealize.ShloMosaic.Pipeline (Dat)
open Idealize.SL.Sem

/-! ## The kernel's arrays -/

/-- What a window onto a whole array reads is the array. -/
theorem read_whole (b : Ref sig .tc) (f : b.ty.Contents (Elt Ideal)) :
    ((Memref.whole b).access (Rect.unit (fun a => 0 * b.ty.shape.size a) b.ty.shape.size
      fun a => Nat.le_of_eq (by rw [Nat.zero_mul, Nat.zero_add])) : View sig .tc _ _ _).read (Elt Ideal) f = f :=
  Memref.read_access_unit_zero (Elt Ideal) b (funext fun a => Nat.zero_mul _) _ f

variable (m : (ℓ : Loc nD τ sig) → Buf (Elt Ideal) ℓ) (c : Dev nD)

theorem ops_x : (ops m c).x = m ((c : Thread nD τ).loc main_arg0) := read_whole main_arg0 _
theorem ops_in0 : (ops m c).in0 = m ((c : Thread nD τ).loc main_arg1) := read_whole main_arg1 _
theorem ops_out0 : (ops m c).out0 = m ((c : Thread nD τ).loc main_arg4) := read_whole main_arg4 _
theorem ops_in1 : (ops m c).in1 = m ((c : Thread nD τ).loc main_arg2) := read_whole main_arg2 _
theorem ops_out1 : (ops m c).out1 = m ((c : Thread nD τ).loc main_arg5) := read_whole main_arg5 _
theorem ops_in2 : (ops m c).in2 = m ((c : Thread nD τ).loc main_arg3) := read_whole main_arg3 _
theorem ops_out2 : (ops m c).out2 = m ((c : Thread nD τ).loc main_arg6) := read_whole main_arg6 _

/-- What the result window leaves, read through the window, is `outcome`. -/
theorem result_read : ((cfg0.win 7).blk (0 : Fin 1)).view.read (Elt Ideal) (finalA m c 7) = outcome (ops m) c := by
  unfold finalA
  rw [show cfg0.N = ((0 : Fin 1) : Fin cfg0.N).val + 1 from rfl, (dats m 0 c).arrAt_succ 7 (0 : Fin 1)]
  rw [show (cfg0.win 7).flush (0 : Fin 1) = true from flush0_7 (0 : Fin 1), if_pos rfl]
  exact View.read_write_univ _ _

/-- So the result array ends as `outcome`. -/
theorem result_eq : finalA m c 7 = outcome (ops m) c :=
  (read_whole main_v1 _).symm.trans (result_read m c)

/-! ## The reference's -/

/-- The whole operands of the reference. -/
def whole (m' : (ℓ : Loc Cert.ReferenceIdeal.nD Cert.ReferenceIdeal.τ Cert.ReferenceIdeal.sig) → Buf (Elt Ideal) ℓ) : Whole where
  x := entries (m := 128) (n := 4096) (φ := .bf16) (m' (((0 : Dev Cert.ReferenceIdeal.nD).tc : Thread Cert.ReferenceIdeal.nD Cert.ReferenceIdeal.τ).loc Cert.ReferenceIdeal.main_arg0))
  in0 := entries (m := 4096) (n := 256) (φ := .bf16) (m' (((0 : Dev Cert.ReferenceIdeal.nD).tc : Thread Cert.ReferenceIdeal.nD Cert.ReferenceIdeal.τ).loc Cert.ReferenceIdeal.main_arg1))
  in1 := entries (m := 4096) (n := 256) (φ := .bf16) (m' (((0 : Dev Cert.ReferenceIdeal.nD).tc : Thread Cert.ReferenceIdeal.nD Cert.ReferenceIdeal.τ).loc Cert.ReferenceIdeal.main_arg2))
  in2 := entries (m := 4096) (n := 256) (φ := .bf16) (m' (((0 : Dev Cert.ReferenceIdeal.nD).tc : Thread Cert.ReferenceIdeal.nD Cert.ReferenceIdeal.τ).loc Cert.ReferenceIdeal.main_arg3))
  out0 := entries (m := 256) (n := 4096) (φ := .bf16) (m' (((0 : Dev Cert.ReferenceIdeal.nD).tc : Thread Cert.ReferenceIdeal.nD Cert.ReferenceIdeal.τ).loc Cert.ReferenceIdeal.main_arg4))
  out1 := entries (m := 256) (n := 4096) (φ := .bf16) (m' (((0 : Dev Cert.ReferenceIdeal.nD).tc : Thread Cert.ReferenceIdeal.nD Cert.ReferenceIdeal.τ).loc Cert.ReferenceIdeal.main_arg5))
  out2 := entries (m := 256) (n := 4096) (φ := .bf16) (m' (((0 : Dev Cert.ReferenceIdeal.nD).tc : Thread Cert.ReferenceIdeal.nD Cert.ReferenceIdeal.τ).loc Cert.ReferenceIdeal.main_arg6))

/-- An array with the entries of a matrix. -/
def ofEntries (A : Mat 128 4096 EReal) : FVec Ideal ⟨2, ![128, 4096]⟩ .f32 := fun i => A (i 0) (i 1)

/-- One of the reference's products to the hidden width. -/
theorem entries_up {a : FVec Ideal Cert.ReferenceIdeal.S128x4096 .bf16} {b : FVec Ideal Cert.ReferenceIdeal.S4096x256 .bf16} {A : Mat 128 4096 EReal} (h : entries a = A) :
    entries (truncf (F := Ideal) .bf16 (Host.dotGeneral Cert.ReferenceIdeal.dot_S128x4096_S4096x256_S128x256_1_0_0_1_n_n none a b) Cert.ReferenceIdeal.Facts₀.bitsLt_bf16_f32) = dot A (entries b) :=
  h ▸ entries_dotGeneral a b

/-- The larger with zero and then one of its products to the full width. -/
theorem entries_down {a : FVec Ideal Cert.ReferenceIdeal.S128x256 .bf16} {b : FVec Ideal Cert.ReferenceIdeal.S256x4096 .bf16} {A : Mat 128 256 EReal} (h : entries a = A) :
    entries (truncf (F := Ideal) .bf16 (Host.dotGeneral Cert.ReferenceIdeal.dot_S128x256_S256x4096_S128x4096_1_0_0_1_n_n none
      (maximumf a (broadcastInDim Cert.ReferenceIdeal.S128x256 ![] Cert.ReferenceIdeal.Facts₀.bcast_S_S128x256 (constant Cert.ReferenceIdeal.S_ .bf16 0x0000#16))) b) Cert.ReferenceIdeal.Facts₀.bitsLt_bf16_f32) = dot (relu A) (entries b) :=
  (entries_dotGeneral _ b).trans (by rw [entries_maximumf, h])

/-- The reference ends with `Whole.result` of its operands, which it keeps. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v18) = ofEntries (whole m').result
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
      ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
      ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)) :=
  (θ_run Cert.ReferenceIdeal.defs _ _).mono (fun r h => ⟨(h 0).1.trans (entries_inj (φ := .f32)
    (entries_down (entries_up (entries_down (entries_up (entries_down (entries_up rfl))))))), (h 0).2⟩)
    (Cert.ReferenceIdeal.Value.run (F := Ideal) m' g')

/-! ## Both -/

/-- From memories that agree block by block and meet the precondition, every device ends with its columns of the
    reference's result. -/
theorem algebraic : Cert.algebraic_KernelIdeal_ReferenceIdeal_pre_finite_KernelIdeal := by
  intro m g m' g' pre agree
  have cut : (whole m').Cut (ops m) := {
    x := fun c => by rw [ops_x, (agree c).1]; exact entries_block_cols _ c _
    in0 := fun c => by rw [ops_in0, (agree c).2.1]; exact entries_block_rows _ c _
    in1 := fun c => by rw [ops_in1, (agree c).2.2.1]; exact entries_block_rows _ c _
    in2 := fun c => by rw [ops_in2, (agree c).2.2.2.1]; exact entries_block_rows _ c _
    out0 := fun c => by rw [ops_out0, (agree c).2.2.2.2.1]; exact entries_block_cols _ c _
    out1 := fun c => by rw [ops_out1, (agree c).2.2.2.2.2.1]; exact entries_block_cols _ c _
    out2 := fun c => by rw [ops_out2, (agree c).2.2.2.2.2.2]; exact entries_block_cols _ c _ }
  have fin : (whole m').Finite := cut.finite fun c => by
    rw [ops_x, ops_in0, ops_in1, ops_in2, ops_out0, ops_out1, ops_out2]; exact pre c
  refine ⟨ofEntries (whole m').result, ?_, reference_run m' g'⟩
  refine (θ_run Cert.KernelIdeal.defs _ _).mono (fun r h c => ⟨?_, operands_kept m r h.1 c⟩) (run_main (F := Ideal) m g)
  refine ((h.1 c 7).trans (result_eq m c)).trans (entries_inj (φ := .f32) ?_)
  exact (entries_outcome cut fin c).trans (entries_block_cols (φ := .f32) (ofEntries (whole m').result) c _).symm

end Cert.AllReduce

end
-- ==== Proof.lean ====
/-
# The certificate

The programs' frames are in `Proof/Frames.lean`, the equality of the kernel's and the reference's results is in
`Proof/Algebraic.lean`; the run of the kernel on 32 devices that both read is in `Proof/Launch.lean`.
-/
module

public import proofs.«01_k».proof.Defs
public import proofs.«01_k».proof.Proof.Frames
public import proofs.«01_k».proof.Proof.Algebraic
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

/-- Everything that the certificate claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.AllReduce.frame_kernel, Cert.AllReduce.frame_kernelIdeal,
    fun m ρ _ => Cert.AllReduce.frame_kernelIdeal m ρ trivial, Cert.AllReduce.frame_reference,
    fun m ρ _ => Cert.AllReduce.frame_reference m ρ trivial, trivial, Cert.AllReduce.algebraic⟩

end Cert.Proof

end
